-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1536, 768]⟩ ⟨2, ![6144, 768]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1536x768 : Shape := ⟨2, ![1536, 768]⟩
abbrev S768x1536 : Shape := ⟨2, ![768, 1536]⟩
abbrev S6144x1536 : Shape := ⟨2, ![6144, 1536]⟩
abbrev S4x1536x768 : Shape := ⟨3, ![4, 1536, 768]⟩
abbrev S2x768x1536 : Shape := ⟨3, ![2, 768, 1536]⟩
abbrev S6 : Shape := ⟨1, ![6]⟩
abbrev S2 : Shape := ⟨1, ![2]⟩
abbrev S1x1536x768 : Shape := ⟨3, ![1, 1536, 768]⟩
abbrev S_ : Shape := ⟨0, ![]⟩
abbrev S1 : Shape := ⟨1, ![1]⟩
abbrev S1x768x768 : Shape := ⟨3, ![1, 768, 768]⟩
abbrev S768x768 : Shape := ⟨2, ![768, 768]⟩
abbrev S1x768x1536 : Shape := ⟨3, ![1, 768, 1536]⟩

abbrev nBuf : Space → Nat
  | .hbm => 3
  | .vmem => 5
  | .smem => 0
  | _ => 0

abbrev bufTy : (tb : Table) → Fin (tcTables nBuf tb) → BufTy
  | .hbm, ⟨0, _⟩ => ⟨S1536x768, .f32⟩
  | .hbm, ⟨1, _⟩ => ⟨S768x1536, .f32⟩
  | .hbm, ⟨2, _⟩ => ⟨S6144x1536, .f32⟩
  | .local _ .vmem, ⟨0, _⟩ => ⟨S1536x768, .f32⟩
  | .local _ .vmem, ⟨1, _⟩ => ⟨S768x1536, .f32⟩
  | .local _ .vmem, ⟨2, _⟩ => ⟨S4x1536x768, .bf16⟩
  | .local _ .vmem, ⟨3, _⟩ => ⟨S768x1536, .bf16⟩
  | .local _ .vmem, ⟨4, _⟩ => ⟨S2x768x1536, .f32⟩
  | _, _ => ⟨S1536x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  (ofTc nBuf bufTy 1 16 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_9 : BitVec 32 := 1#32
  let v15 : BitVec 32 := Scalar.muli v5 c1_i32_9
  let v16 : BitVec 32 := Scalar.addi c0_i32 v15
  v16.toNat
def k0_dev2 (d0 : Dev nD) : Nat :=
  let c0_i32_12 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_11 : BitVec 32 := 1#32
  let v17 : BitVec 32 := Scalar.muli v7 c1_i32_11
  let v18 : BitVec 32 := Scalar.addi c0_i32_12 v17
  v18.toNat
def k0_dev3 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_16 : BitVec 32 := 1#32
  let v19 : BitVec 32 := Scalar.muli v7 c1_i32_16
  let v20 : BitVec 32 := Scalar.addi c0_i32_17 v19
  v20.toNat
def k0_dev4 (d0 : Dev nD) : Nat :=
  let c0_i32_27 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_26 : BitVec 32 := 1#32
  let v29 : BitVec 32 := Scalar.muli v5 c1_i32_26
  let v30 : BitVec 32 := Scalar.addi c0_i32_27 v29
  v30.toNat
def k0_off1 (d0 : Dev nD) (c0_i32_44 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v52 : BitVec 32 := Scalar.addi v2 c8_i32
  let c4_i32_43 : BitVec 32 := 4#32
  let v53 : BitVec 32 := Scalar.remsi v52 c4_i32_43
  let c1536_i32 : BitVec 32 := 1536#32
  let v54 : BitVec 32 := Scalar.muli v53 c1536_i32
  let v55 : BitVec 32 := Scalar.addi v54 c0_i32_44
  let c0_i32_47 : BitVec 32 := 0#32
  ![v55.toNat, 0]
def k0_dev5 (d0 : Dev nD) : Nat :=
  let c0_i32_81 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_80 : BitVec 32 := 1#32
  let v85 : BitVec 32 := Scalar.muli v7 c1_i32_80
  let v86 : BitVec 32 := Scalar.addi c0_i32_81 v85
  v86.toNat
def k0_dev6 (d0 : Dev nD) : Nat :=
  let c0_i32_91 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_90 : BitVec 32 := 1#32
  let v95 : BitVec 32 := Scalar.muli v7 c1_i32_90
  let v96 : BitVec 32 := Scalar.addi c0_i32_91 v95
  v96.toNat
def k0_dev7 (d0 : Dev nD) : Nat :=
  let c0_i32_111 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_110 : BitVec 32 := 1#32
  let v113 : BitVec 32 := Scalar.muli v5 c1_i32_110
  let v114 : BitVec 32 := Scalar.addi c0_i32_111 v113
  v114.toNat
def k0_dev8 (d0 : Dev nD) : Nat :=
  let c0_i32_120 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_119 : BitVec 32 := 1#32
  let v123 : BitVec 32 := Scalar.muli v5 c1_i32_119
  let v124 : BitVec 32 := Scalar.addi c0_i32_120 v123
  v124.toNat
def k0_off2 (d0 : Dev nD) (c0_i32_143 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_128 : BitVec 32 := 1#32
  let v135 : BitVec 32 := Scalar.subi v2 c1_i32_128
  let c8_i32_140 : BitVec 32 := 8#32
  let v146 : BitVec 32 := Scalar.addi v135 c8_i32_140
  let c4_i32_141 : BitVec 32 := 4#32
  let v147 : BitVec 32 := Scalar.remsi v146 c4_i32_141
  let c1536_i32_142 : BitVec 32 := 1536#32
  let v148 : BitVec 32 := Scalar.muli v147 c1536_i32_142
  let v149 : BitVec 32 := Scalar.addi v148 c0_i32_143
  let c0_i32_146 : BitVec 32 := 0#32
  ![v149.toNat, 0]
def k0_off3 (d0 : Dev nD) (c1_i32_152 : BitVec 32) (c768_i32_167 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v157 : BitVec 32 := Scalar.addi v2 c1_i32_152
  let c8_i32_164 : BitVec 32 := 8#32
  let v168 : BitVec 32 := Scalar.addi v157 c8_i32_164
  let c4_i32_165 : BitVec 32 := 4#32
  let v169 : BitVec 32 := Scalar.remsi v168 c4_i32_165
  let c1536_i32_166 : BitVec 32 := 1536#32
  let v170 : BitVec 32 := Scalar.muli v169 c1536_i32_166
  let v171 : BitVec 32 := Scalar.addi v170 c768_i32_167
  let c0_i32_170 : BitVec 32 := 0#32
  ![v171.toNat, 0]
abbrev stage0_0 : Fin 1 → Memref sig .tc .vmem S1536x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S6144x768 : Shape := ⟨2, ![6144, 768]⟩
abbrev S768x1536 : Shape := ⟨2, ![768, 1536]⟩
abbrev S6144x1536 : Shape := ⟨2, ![6144, 1536]⟩

abbrev nBuf : Space → Nat
  | .hbm => 3
  | .vmem => 0
  | .smem => 0
  | _ => 0

abbrev bufTy : (tb : Table) → Fin (tcTables nBuf tb) → BufTy
  | .hbm, ⟨0, _⟩ => ⟨S6144x768, .f32⟩
  | .hbm, ⟨1, _⟩ => ⟨S768x1536, .f32⟩
  | .hbm, ⟨2, _⟩ => ⟨S6144x1536, .f32⟩
  | _, _ => ⟨S6144x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Contents.lean ====
/-
# What the buffers hold

Four devices stand on a ring. Device `c` starts with a block of rows of `A` and the whole of `B`; it rounds both to
bf16, passes halves of the rounded blocks around the ring into a gather buffer of four slots, multiplies each half it
holds by its `B`, and copies each product out to the rows of the result that the half belongs to.

This module names the ring, the eight halves of the gather buffer, the two stages of the product, the eight row chunks
of the result, and says what each of them holds once it has been filled. Nothing here is about the run.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Pipeline.ValueKit.Geometry
public import Idealize.ShloMosaic.Lib.ValueLayout
public import Idealize.ShloMosaic.Lib.Tactic

@[expose] public section

noncomputable section

namespace Cert.Gather

open Cert.KernelIdeal Cert.KernelIdeal.Gen

open Idealize.ShloMosaic
open Idealize.ShloMosaic.TcCoe
open Idealize.ShloMosaic.ValueIdx

variable {F : FTy → Type} [FloatOps F]

/-! ## The ring -/

set_option backward.proofsInPublic true in
/-- The device after `c` on the ring. -/
def nxt (c : Dev nD) : Dev nD := ⟨(c.val + 1) % 4, Nat.mod_lt _ (by decide)⟩
set_option backward.proofsInPublic true in
/-- The device before `c` on the ring. -/
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide

/-- One step forward along the ring, as a bijection of the devices. -/
def step : Dev nD ≃ Dev nD := ⟨nxt, prv, prv_nxt, nxt_prv⟩

/-- Whose block the slot `s` of device `c`'s gather buffer holds: the device before `c`, the one after, the one
opposite, `c` itself. -/
def owner (c : Dev nD) : Fin 4 → Dev nD
  | 0 => prv c
  | 1 => nxt c
  | 2 => prv (prv c)
  | 3 => c

/-- The four slots hold the blocks of four different devices. -/
theorem owner_injective (c : Dev nD) : Function.Injective (owner c) := by revert c; decide
theorem owner_surjective (c : Dev nD) : Function.Surjective (owner c) := by revert c; decide

/-! ## The six transfers -/

/-- Slot and half a transfer reads. -/
def srcAt : Fin 6 → Fin 4 × Fin 2
  | 0 => (3, 0) | 1 => (3, 1) | 2 => (0, 0) | 3 => (1, 1) | 4 => (3, 1) | 5 => (3, 0)
/-- Slot and half a transfer writes, on the receiving device. -/
def dstAt : Fin 6 → Fin 4 × Fin 2
  | 0 => (0, 0) | 1 => (1, 1) | 2 => (2, 0) | 3 => (2, 1) | 4 => (0, 1) | 5 => (1, 0)
/-- Where device `c`'s transfer goes: the even ones forward, the odd ones back. -/
def toD (c : Dev nD) : Fin 6 → Dev nD
  | 0 => nxt c | 1 => prv c | 2 => nxt c | 3 => prv c | 4 => nxt c | 5 => prv c
/-- Where the transfer that arrives at device `c` comes from. -/
def fromD (c : Dev nD) : Fin 6 → Dev nD
  | 0 => prv c | 1 => nxt c | 2 => prv c | 3 => nxt c | 4 => prv c | 5 => nxt c

theorem toD_fromD (c : Dev nD) (j : Fin 6) : toD (fromD c j) j = c := by revert c j; decide
theorem fromD_toD (c : Dev nD) (j : Fin 6) : fromD (toD c j) j = c := by revert c j; decide

/-- A transfer keeps the half it moves, -/
theorem half_kept (j : Fin 6) : (dstAt j).2 = (srcAt j).2 := by revert j; decide
/-- and puts it in the slot kept, on the receiving device, for the block it is part of. -/
theorem owner_kept (c : Dev nD) (j : Fin 6) : owner (toD c j) (dstAt j).1 = owner c (srcAt j).1 := by revert c j; decide

/-! ## The pieces of the buffers -/

theorem half_inb (s : Fin 4) (h : Fin 2) (a : Fin 3) :
    (![s.val, 768 * h.val, 0] : Fin 3 → ℕ) a + S1x768x768.size a ≤ S4x1536x768.size a := by
  revert s h a; decide
theorem stage_inb (e : Fin 2) (a : Fin 3) :
    (![e.val, 0, 0] : Fin 3 → ℕ) a + S1x768x1536.size a ≤ S2x768x1536.size a := by
  revert e a; decide
theorem chunk_inb (o : Dev nD) (h : Fin 2) (a : Fin 2) :
    (![1536 * o.val + 768 * h.val, 0] : Fin 2 → ℕ) a + S768x1536.size a ≤ S6144x1536.size a := by
  revert o h a; decide

/-- The rectangle of one half of one slot of the gather buffer. -/
abbrev halfR (s : Fin 4) (h : Fin 2) : Rect S4x1536x768 := Rect.unit (s := S4x1536x768) ![s.val, 768 * h.val, 0] S1x768x768.size (half_inb s h)
/-- One half (768 rows) of one slot of the gather buffer. -/
abbrev half (s : Fin 4) (h : Fin 2) : Memref sig .tc .vmem S768x768 .bf16 :=
  ((Memref.whole cc0_scratch0).slice (halfR s h) (fun _ => rfl)).squeeze S768x768 squeezes_S1x768x768_S768x768
/-- The rectangle of one stage of the product buffer. -/
abbrev stageR (e : Fin 2) : Rect S2x768x1536 := Rect.unit (s := S2x768x1536) ![e.val, 0, 0] S1x768x1536.size (stage_inb e)
/-- One stage of the product buffer. -/
abbrev stage (e : Fin 2) : Memref sig .tc .vmem S768x1536 .f32 :=
  ((Memref.whole cc0_scratch2).slice (stageR e) (fun _ => rfl)).squeeze S768x1536 squeezes_S1x768x1536_S768x1536
/-- The rectangle of the result's rows that come from half `h` of device `o`'s block. -/
abbrev chunkR (o : Dev nD) (h : Fin 2) : Rect S6144x1536 := Rect.unit (s := S6144x1536) ![1536 * o.val + 768 * h.val, 0] S768x1536.size (chunk_inb o h)
/-- The rows of the result that come from half `h` of device `o`'s block. -/
abbrev chunk (o : Dev nD) (h : Fin 2) : Memref sig .tc .hbm S768x1536 .f32 :=
  (Memref.whole main_v1).slice (chunkR o h) (fun _ => rfl)

theorem all_two {P : Fin 2 → Prop} : (∀ a, P a) ↔ P 0 ∧ P 1 := by rw [Fin.forall_fin_succ, Fin.forall_fin_one]; rfl
theorem all_three {P : Fin 3 → Prop} : (∀ a, P a) ↔ P 0 ∧ P 1 ∧ P 2 := by rw [Fin.forall_fin_succ, all_two]; rfl

/-- An index of the gather buffer lies in the half `(s, h)` exactly when it is in slot `s` and its row is in half `h`. -/
theorem mem_half (s : Fin 4) (h : Fin 2) (i : S4x1536x768.Idx) :
    i ∈ (half s h).view.set ↔ (i 0).val = s.val ∧ (i 1).val / 768 = h.val := by
  have h1 : (i 1).val < 1536 := (i 1).isLt
  have h2 : (i 2).val < 768 := (i 2).isLt
  rw [Memref.set_view_squeeze]
  show i ∈ ((View.whole cc0_scratch0).slice (halfR s h)).set ↔ _
  rw [View.set_slice_whole, Rect.mem_set_unit]
  refine Iff.trans all_three ?_
  show (s.val ≤ (i 0).val ∧ (i 0).val < s.val + 1) ∧ (768 * h.val ≤ (i 1).val ∧ (i 1).val < 768 * h.val + 768)
    ∧ (0 ≤ (i 2).val ∧ (i 2).val < 0 + 768) ↔ _
  omega

/-- An index of the product buffer lies in the stage it names on its first axis. -/
theorem mem_stage (e : Fin 2) (i : S2x768x1536.Idx) : i ∈ (stage e).view.set ↔ (i 0).val = e.val := by
  have h1 : (i 1).val < 768 := (i 1).isLt
  have h2 : (i 2).val < 1536 := (i 2).isLt
  rw [Memref.set_view_squeeze]
  show i ∈ ((View.whole cc0_scratch2).slice (stageR e)).set ↔ _
  rw [View.set_slice_whole, Rect.mem_set_unit]
  refine Iff.trans all_three ?_
  show (e.val ≤ (i 0).val ∧ (i 0).val < e.val + 1) ∧ (0 ≤ (i 1).val ∧ (i 1).val < 0 + 768)
    ∧ (0 ≤ (i 2).val ∧ (i 2).val < 0 + 1536) ↔ _
  omega

/-- An index of the result lies in the chunk of its row. -/
theorem mem_chunk (o : Dev nD) (h : Fin 2) (i : S6144x1536.Idx) :
    i ∈ (chunk o h).view.set ↔ (i 0).val / 768 = 2 * o.val + h.val := by
  have h1 : (i 1).val < 1536 := (i 1).isLt
  show i ∈ ((View.whole main_v1).slice (chunkR o h)).set ↔ _
  rw [View.set_slice_whole, Rect.mem_set_unit]
  refine Iff.trans all_two ?_
  show (1536 * o.val + 768 * h.val ≤ (i 0).val ∧ (i 0).val < 1536 * o.val + 768 * h.val + 768) ∧ (0 ≤ (i 1).val ∧ (i 1).val < 0 + 1536) ↔ _
  omega

/-! ## Contents -/

variable (m : (ℓ : Loc nD τ sig) → Buf (Elt F) ℓ)

/-- The block of `A` that device `c` stages. -/
def aIn (c : Dev nD) : (cc0_stg0_0 : Ref sig .tc).ty.Contents (Elt F) :=
  (win0_0.blk (0 : Fin 1)).view.read (Elt F) (m ((c : Thread nD τ).loc main_arg0))
/-- The `B` that device `c` stages. -/
def bIn (c : Dev nD) : (cc0_stg1_0 : Ref sig .tc).ty.Contents (Elt F) :=
  (win0_1.blk (0 : Fin 1)).view.read (Elt F) (m ((c : Thread nD τ).loc main_arg1))

/-- Device `c`'s block of `A`, rounded to bf16. -/
def aBf (c : Dev nD) : FVec F S1536x768 .bf16 := truncf .bf16 (aIn m c) bitsLt_bf16_f32
/-- Device `c`'s `B`, rounded to bf16. -/
def bBf (c : Dev nD) : FVec F S768x1536 .bf16 := truncf .bf16 (bIn m c) bitsLt_bf16_f32

/-- The gather buffer of device `c`, full: slot `s` holds the rounded block of the slot's owner. -/
def agF (c : Dev nD) : (cc0_scratch0 : Ref sig .tc).ty.Contents (Elt F) :=
  fun i : S4x1536x768.Idx => aBf m (owner c (i 0)) (ix2 (n0 := 1536) (n1 := 768) (i 1) (i 2))

theorem row_lt (h : Fin 2) (x : Fin 768) : 768 * h.val + x.val < 1536 := by omega

/-- Half `h` of device `o`'s rounded block. -/
def hv (o : Dev nD) (h : Fin 2) : FVec F S768x768 .bf16 :=
  fun x => aBf m o (ix2 (n0 := 1536) (n1 := 768) ⟨768 * h.val + (x 0).val, row_lt h (x 0)⟩ (x 1))

/-- The product device `c` forms of half `h` of device `o`'s rounded block and its own rounded `B`. -/
def tile (c o : Dev nD) (h : Fin 2) : FVec F S768x1536 .f32 :=
  matmul dot_S768x768_S768x1536_S768x1536_1_0_0_1_n_n none (hv m o h) (bBf m c) (constant S768x1536 .f32 0x00000000#32)

theorem dev_lt (r : Fin 6144) : r.val / 1536 < nD := by show _ < 4; omega
theorem part_lt (r : Fin 6144) : r.val % 1536 / 768 < 2 := by omega

/-- The result on device `c`: each row is a row of the product of the half the row belongs to. -/
def outF (c : Dev nD) : (main_v1 : Ref sig .tc).ty.Contents (Elt F) :=
  fun i : S6144x1536.Idx => tile m c ⟨(i 0).val / 1536, dev_lt (i 0)⟩ ⟨(i 0).val % 1536 / 768, part_lt (i 0)⟩
    (ix2 (n0 := 768) (n1 := 1536) ⟨(i 0).val % 768, Nat.mod_lt _ (by decide)⟩ (i 1))

/-! ## What the loads, stores and copies make of them -/

/-- Slot 3 of the full gather buffer is what the first store writes. -/
theorem store_own (c : Dev nD) (f : (cc0_scratch0 : Ref sig .tc).ty.Contents (Elt F)) (i : S4x1536x768.Idx) (hi : (i 0).val = 3) :
    ((Memref.whole cc0_scratch0).access (Rect.unit (s := S4x1536x768) ![3, 0, 0] S1x1536x768.size inb_S4x1536x768_S1x1536x768_3_0_0) :
      View sig .tc _ _ _).write (Elt F) f (k0_pay1 (aIn m c)) Finset.univ i = agF m c i := by
  have hx : ((Memref.whole cc0_scratch0).access (Rect.unit (s := S4x1536x768) ![3, 0, 0] S1x1536x768.size inb_S4x1536x768_S1x1536x768_3_0_0) :
      View sig .tc _ _ _).emb (ix3 (0 : Fin 1) (i 1) (i 2)) = i := by
    funext a
    refine Fin.ext ((ValueKit.view_emb_slice_whole_unit_val cc0_scratch0 _ _ _ _ a).trans ?_)
    match a with
    | ⟨0, _⟩ => exact hi.symm
    | ⟨1, _⟩ => exact Nat.zero_add _
    | ⟨2, _⟩ => exact Nat.zero_add _
  conv_lhs => rw [← hx]
  rw [View.write_emb_of_mem _ _ (Finset.mem_univ _)]
  have ho : owner c (i 0) = c := by rw [show i 0 = (3 : Fin 4) from Fin.ext hi]; rfl
  show k0_pay1 (aIn m c) (ix3 (0 : Fin 1) (i 1) (i 2)) = aBf m (owner c (i 0)) (ix2 (i 1) (i 2))
  rw [ho]
  unfold k0_pay1 aBf
  refine (shapeCast_ab_1ab_apply (a := 1536) (b := 768) _ _ _ _ _).trans ?_
  rw [shapeCast_self]

/-- The second store writes device `c`'s rounded `B`. -/
theorem pay_b (c : Dev nD) : k0_pay2 (bIn m c) = bBf m c := by
  unfold k0_pay2 bBf
  simp only [shapeCast_self]

/-- A half of the full gather buffer, read as a matrix, is that half of the slot's owner's block. -/
theorem read_half (c : Dev nD) (s : Fin 4) (h : Fin 2) : (half s h).view.read (Elt F) (agF m c) = hv m (owner c s) h := by
  funext x
  obtain ⟨p, q, rfl⟩ : ∃ (p q : Fin 768), x = ix2 p q := ⟨_, _, eq_ix2 x⟩
  have e : (halfR s h).emb (Shape.reshapeEquiv squeezes_S1x768x768_S768x768.numel_eq (ix2 p q))
      = ix3 (n0 := 4) (n1 := 1536) (n2 := 768) s ⟨768 * h.val + p.val, row_lt h p⟩ q := by
    have e0 := reshapeEquiv_ix2_1ab (a := 768) (b := 768) squeezes_S1x768x768_S768x768.numel_eq p q
    refine (congrArg (halfR s h).emb e0).trans ?_
    funext a
    refine Fin.ext ((ValueKit.rect_emb_unit_val _ _ _ _ a).trans ?_)
    match a with
    | ⟨0, _⟩ => rfl
    | ⟨1, _⟩ => rfl
    | ⟨2, _⟩ => exact Nat.zero_add _
  exact congrArg (agF m c) e

/-- What a transfer writes on the receiving device is what the full gather buffer there holds. -/
theorem lands (c : Dev nD) (j : Fin 6) (fd : (cc0_scratch0 : Ref sig .tc).ty.Contents (Elt F)) (i : S4x1536x768.Idx)
    (hi : i ∈ (half (dstAt j).1 (dstAt j).2).view.set) :
    (half (dstAt j).1 (dstAt j).2).view.write (Elt F) fd ((half (srcAt j).1 (srcAt j).2).view.read (Elt F) (agF m c)) Finset.univ i
      = agF m (toD c j) i := by
  obtain ⟨x, -, rfl⟩ := Finset.mem_map.mp hi
  rw [View.write_emb_of_mem _ _ (Finset.mem_univ x), read_half, ← owner_kept, ← half_kept, ← read_half]
  rfl

/-- A product formed from loads of a half of the full gather buffer and of the rounded `B`, read back from the stage it
was stored to. -/
theorem read_stage (c : Dev nD) (s : Fin 4) (h : Fin 2) (e : Fin 2) (f : (cc0_scratch2 : Ref sig .tc).ty.Contents (Elt F)) :
    (stage e).view.read (Elt F) (((Memref.whole cc0_scratch2).access (stageR e) : View sig .tc _ _ _).write (Elt F) f
      (k0_pay3 ((Memref.whole cc0_scratch0).view.readAt (Elt F) (halfR s h).toLoadRect (agF m c)) (bBf m c)) Finset.univ)
      = tile m c (owner c s) h := by
  rw [Memref.read_squeeze_slice (Memref.whole cc0_scratch2) (stageR e) (fun _ => rfl) squeezes_S1x768x1536_S768x1536
    squeezes_S1x768x1536_S768x1536.numel_eq]
  rw [View.readAt_rect, View.read_write_univ]
  unfold k0_pay3 tile
  refine (shapeCast_shapeCast _ _ _).trans ?_
  rw [← read_half]
  rfl

/-- A product copied to its chunk is what the result holds there. -/
theorem write_chunk (c : Dev nD) (o : Dev nD) (h : Fin 2) (fd : (main_v1 : Ref sig .tc).ty.Contents (Elt F)) (i : S6144x1536.Idx)
    (hi : i ∈ (chunk o h).view.set) :
    (chunk o h).view.write (Elt F) fd (tile m c o h) Finset.univ i = outF m c i := by
  obtain ⟨x, -, rfl⟩ := Finset.mem_map.mp hi
  obtain ⟨p, q, rfl⟩ : ∃ (p : Fin 768) (q : Fin 1536), x = ix2 p q := ⟨_, _, eq_ix2 x⟩
  rw [View.write_emb_of_mem _ _ (Finset.mem_univ _)]
  have h0 : (((chunk o h).view.emb (ix2 p q)) 0).val = 1536 * o.val + 768 * h.val + p.val :=
    ValueKit.view_emb_slice_whole_unit_val main_v1 _ _ _ (ix2 p q) 0
  have h1 : (((chunk o h).view.emb (ix2 p q)) 1).val = q.val :=
    (ValueKit.view_emb_slice_whole_unit_val main_v1 _ _ _ (ix2 p q) 1).trans (Nat.zero_add _)
  have ho : o.val < 4 := o.isLt
  have e1 : (⟨_, dev_lt (((chunk o h).view.emb (ix2 p q)) 0)⟩ : Dev nD) = o := Fin.ext (by show _ / 1536 = o.val; omega)
  have e2 : (⟨_, part_lt (((chunk o h).view.emb (ix2 p q)) 0)⟩ : Fin 2) = h := Fin.ext (by show _ % 1536 / 768 = h.val; omega)
  have e3 : (⟨(((chunk o h).view.emb (ix2 p q)) 0).val % 768, Nat.mod_lt _ (by decide)⟩ : Fin 768) = p :=
    Fin.ext (by show _ % 768 = p.val; omega)
  have e4 : (((chunk o h).view.emb (ix2 p q)) 1 : Fin 1536) = q := Fin.ext h1
  show tile m c o h (ix2 p q) = tile m c _ _ (ix2 _ _)
  rw [e1, e2, e3, e4]

end Cert.Gather
-- ==== Proof.Schedule.lean ====
/-
# The protocol

The semaphores the kernel uses between devices, and what passes at each of them. Every such semaphore is used for one
round: the runtime's barrier, one send and one receive semaphore for each of the six transfers.

* The barrier of device `c` is signalled once by each neighbour. The signal of the device after it hands over the three
  places there that `c`'s forward transfers write, the signal of the device before it the three places there that its
  backward transfers write.
* A receive semaphore hands its device the half that landed, holding what the full gather buffer holds there.
* A send semaphore hands its device back the share of the half that was lent to the transfer.

The waits are ordered by levels, so that no device waits for something that waits for it.
-/
module

public import proofs.«01_k».proof.Proof.Contents
public import Idealize.ShloMosaic.Lib.Transfers

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ghost state: the launch's rounds, the protocol's rounds, the counters of the local copies -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
/-- Where the protocol's rounds live in the ghost state. -/
def ER : Emb UB (MT nD τ sig Unit (Elt F) ℕ UU ℕ) :=
  (Emb.inl : Emb UB (UB × Counters)).trans (embR : Emb (UB × Counters) (MT nD τ sig Unit (Elt F) ℕ UU ℕ))
instance ER_landsIn : (ER : Emb UB 𝕄).LandsIn (upEmb : UEmb _ 𝕄) := by unfold ER; infer_instance

/-! ## The semaphores -/

/-- The runtime's barrier semaphore. -/
abbrev barS : Sem sig := (SemArray.scalar (sig.barrier 0 rfl) : Sems sig S_).sem
theorem sndS_lt (j : Fin 6) : 2 + j.val < sig.nDmaSem := by show _ < 16; omega
theorem rcvS_lt (j : Fin 6) : 8 + j.val < sig.nDmaSem := by show _ < 16; omega
theorem outS_lt (e : Fin 2) : 14 + e.val < sig.nDmaSem := by show _ < 16; omega
/-- The semaphore the transfer `j` signals where it starts. -/
abbrev sndS (j : Fin 6) : DmaSem sig := ⟨2 + j.val, sndS_lt j⟩
/-- The semaphore the transfer `j` signals where it lands. -/
abbrev rcvS (j : Fin 6) : DmaSem sig := ⟨8 + j.val, rcvS_lt j⟩
/-- The semaphore of the copies out of stage `e`. -/
abbrev outS (e : Fin 2) : DmaSem sig := ⟨14 + e.val, outS_lt e⟩

/-- The kinds of semaphore the protocol runs on: the barrier, the six send ones, the six receive ones. -/
abbrev Kind13 : Type := Unit ⊕ (Fin 6 ⊕ Fin 6)
abbrev kBar : Kind13 := .inl ()
abbrev kSnd (j : Fin 6) : Kind13 := .inr (.inl j)
abbrev kRcv (j : Fin 6) : Kind13 := .inr (.inr j)

/-- The semaphore of a kind. -/
def semOf : Kind13 → SemLoc sig
  | .inl _ => .reg barS
  | .inr (.inl j) => .dma (sndS j)
  | .inr (.inr j) => .dma (rcvS j)

/-- The kind of a semaphore, if the protocol uses it. -/
def role : SemLoc sig → Option Kind13
  | .reg _ => some kBar
  | .dma q => if h : 2 ≤ q.val ∧ q.val < 8 then some (kSnd ⟨q.val - 2, by omega⟩)
      else if h' : 8 ≤ q.val ∧ q.val < 14 then some (kRcv ⟨q.val - 8, by omega⟩) else none

theorem role_semOf (k : Kind13) : role (semOf k) = some k := by revert k; decide
theorem semOf_injective : Function.Injective semOf := fun a b h =>
  Option.some.inj ((role_semOf a).symm.trans ((congrArg role h).trans (role_semOf b)))

/-- The semaphore of a kind on a device. -/
abbrev cell (ck : Dev nD × Kind13) : GSem nD τ sig := ((ck.1 : Thread nD τ), semOf ck.2)

theorem cell_injective : Function.Injective cell := by
  rintro ⟨c, k⟩ ⟨c', k'⟩ h
  obtain rfl : c = c' := congrArg (fun g : GSem nD τ sig => g.1.1) h
  obtain rfl : k = k' := semOf_injective (congrArg (fun g : GSem nD τ sig => g.2) h)
  rfl

/-- What one transfer of a half credits. -/
abbrev N : ℕ := (half 0 0).view.dmaCredit
theorem N_pos : 0 < N := View.dmaCredit_pos _ (by decide)

/-! ## What passes at them -/

variable (m : (ℓ : Loc nD τ sig) → Buf (Elt F) ℓ)

/-- Half `h` of slot `s` of device `c`'s gather buffer, held at the share `q` and the contents `f`. -/
def hp (c : Dev nD) (sh : Fin 4 × Fin 2) (q : PosShare TreeShare) (f : (cc0_scratch0 : Ref sig .tc).ty.Contents (Elt F)) : sProp 𝕄 :=
  (half sh.1 sh.2).view.loc (c : Thread nD τ) ↦[(half sh.1 sh.2).view.set]{q} f

instance hp_storable (c : Dev nD) (sh) (q) (f) : BI.Storable (upEmb : UEmb _ 𝕄) (hp (F := F) c sh q f) := by unfold hp; infer_instance

/-- The share of its source that a transfer is lent. Two transfers read each half of slot 3. -/
def lent : Fin 6 → PosShare TreeShare
  | 0 => fullShare.left | 1 => fullShare.left | 2 => fullShare.left | 3 => fullShare.left
  | 4 => fullShare.right.left | 5 => fullShare.right.left

/-- The place on device `c` that the transfer `j` arriving there writes, whatever it holds. -/
def place (c : Dev nD) (j : Fin 6) : sProp 𝕄 := iprop(∃ f, hp c (dstAt j) fullShare f)
/-- What device `c` gets at its barrier, from the device after it and from the device before it. -/
def barPay (c : Dev nD) (d : Bool) : sProp 𝕄 :=
  if d then iprop(place (nxt c) 0 ∗ place (nxt c) 2 ∗ place (nxt c) 4) else iprop(place (prv c) 1 ∗ place (prv c) 3 ∗ place (prv c) 5)
/-- What device `c` gets at the receive semaphore `j`. -/
def rcvPay (c : Dev nD) (j : Fin 6) : sProp 𝕄 := hp c (dstAt j) fullShare (agF m c)
/-- What device `c` gets back at the send semaphore `j`. -/
def sndPay (c : Dev nD) (j : Fin 6) : sProp 𝕄 := hp c (srcAt j) (lent j) (agF m c)

/-- Who pays at a semaphore of a kind: both neighbours at the barrier (`true` the one after, `false` the one before), one
payer at the others. -/
def payers : Option Kind13 → Finset Bool
  | some (.inl _) => Finset.univ
  | some (.inr _) => {false}
  | none => ∅

/-- How much a payer pays. -/
def dues : Option Kind13 → ℕ
  | some (.inl _) => 1
  | _ => N

/-- What a payer hands over. -/
def pay (c : Dev nD) (d : Bool) : Option Kind13 → sProp 𝕄
  | some (.inl _) => barPay c d
  | some (.inr (.inl j)) => sndPay m c j
  | some (.inr (.inr j)) => rcvPay m c j
  | none => iprop(emp)

instance place_storable (c : Dev nD) (j : Fin 6) : BI.Storable (upEmb : UEmb _ 𝕄) (place (F := F) c j) := by unfold place; infer_instance
instance pay_storable (c : Dev nD) (d : Bool) (k : Option Kind13) : BI.Storable (upEmb : UEmb _ 𝕄) (pay m c d k) := by
  unfold pay barPay sndPay rcvPay
  (repeat' split) <;> infer_instance

/-- The protocol: one round, round 0, at every semaphore the devices share. -/
def Rd : Rounds.Schedule (GSem nD τ sig) Bool 𝕄 where
  duties g r := if r = 0 ∧ g.1.2 = .tc then payers (role g.2) else ∅
  unitless _ := False
  amount g _ _ := dues (role g.2)
  payload g _ d := pay m g.1.1 d (role g.2)
  amount_pos g _ _ _ := by
    show 0 < dues (role g.2)
    unfold dues
    split
    · exact Nat.one_pos
    · exact N_pos

instance Rd_storable (g : GSem nD τ sig) (r : ℕ) (d : Bool) : BI.Storable (upEmb : UEmb _ 𝕄) ((Rd (F := F) m).payload g r d) :=
  pay_storable m g.1.1 d (role g.2)

theorem duties_cell (c : Dev nD) (k : Kind13) : (Rd m).duties (cell (c, k)) 0 = payers (some k) := by
  dsimp only [Rd]
  exact (if_pos ⟨rfl, rfl⟩).trans (congrArg payers (role_semOf k))
theorem duties_later (g : GSem nD τ sig) (r : ℕ) (hr : 1 ≤ r) : (Rd m).duties g r = ∅ := if_neg fun h => by omega
theorem amount_cell (c : Dev nD) (k : Kind13) (r : ℕ) (d : Bool) : (Rd m).amount (cell (c, k)) r d = dues (some k) := by
  show dues (role (semOf k)) = _
  rw [role_semOf]
theorem payload_cell (c : Dev nD) (k : Kind13) (r : ℕ) (d : Bool) : (Rd m).payload (cell (c, k)) r d = pay m c d (some k) := by
  show pay m c d (role (semOf k)) = _
  rw [role_semOf]

/-- The barrier's round is over at two units, -/
theorem expect_bar (c : Dev nD) : (Rd m).expect (cell (c, kBar)) 0 = 2 := by
  unfold Schedule.expect Schedule.amountOf
  rw [Finset.sum_congr (duties_cell m c kBar) fun d _ => amount_cell m c kBar 0 d]; rfl
/-- a transfer's at one half's credit. -/
theorem expect_xfer (c : Dev nD) (k : Fin 6 ⊕ Fin 6) : (Rd m).expect (cell (c, .inr k)) 0 = N := by
  unfold Schedule.expect Schedule.amountOf
  rw [Finset.sum_congr (duties_cell m c (.inr k)) fun d _ => amount_cell m c (.inr k) 0 d]
  exact Finset.sum_singleton _ _

/-- All that passes at a device's barrier. -/
theorem rest_bar (c : Dev nD) :
    bigSep ((Rd m).duties (cell (c, kBar)) 0 \ ∅) (fun d => (Rd m).payload (cell (c, kBar)) 0 d) = iprop(barPay (F := F) c true ∗ barPay c false) := by
  rw [Finset.sdiff_empty, duties_cell, bigSep_congr fun d _ => payload_cell m c kBar 0 d]
  exact bigSep_univ_eq_bigSepL [true, false] (by decide) (by decide) _
/-- All that passes at a semaphore of a transfer. -/
theorem rest_xfer (c : Dev nD) (k : Fin 6 ⊕ Fin 6) :
    bigSep ((Rd m).duties (cell (c, .inr k)) 0 \ ∅) (fun d => (Rd m).payload (cell (c, .inr k)) 0 d) = pay m c false (some (.inr k)) := by
  rw [Finset.sdiff_empty, duties_cell, bigSep_congr fun d _ => payload_cell m c (.inr k) 0 d]
  exact bigSep_singleton

/-! ## What a device owes, and the levels -/

/-- What device `c` owes once the transfers in the list are all that is left to start. -/
def debt (c : Dev nD) : List (Fin 6) → CellTallies nD τ sig Unit
  | [] => 0
  | j :: l => debt c l + tallyAt (cell (toD c j, kRcv j)) () N

/-- The transfers in the order in which a device starts them. -/
abbrev order : List (Fin 6) := [0, 1, 2, 4, 3, 5]
/-- What device `c` owes between its two barrier signals, -/
def O₁ (c : Dev nD) : CellTallies nD τ sig Unit := debt c order + tallyAt (cell (nxt c, kBar)) () 1
/-- and before both. -/
def O₀ (c : Dev nD) : CellTallies nD τ sig Unit := O₁ c + tallyAt (cell (prv c, kBar)) () 1

def L (g : GSem nD τ sig) : Finset Unit := if g.1.2 = .tc then {()} else ∅
/-- The level of a semaphore of a kind: the barrier below the first two arrivals, those below the other four; all that
signals on its own account at the bottom. -/
def rank : Option Kind13 → ℕ
  | some (.inl _) => 1
  | some (.inr (.inr j)) => if j.val < 2 then 2 else 3
  | _ => 0
def lv (g : GSem nD τ sig) (_ : Unit) : ℕ := rank (role g.2)

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : Kind13) (u : Unit) : lv (cell (c, k)) u = rank (some k) := by
  show rank (role (semOf k)) = _
  rw [role_semOf]

theorem tallyAt_pos {g g' : GSem nD τ sig} {u u' : Unit} {n : ℕ} (h : 0 < (tallyAt g' u' n : CellTallies nD τ sig Unit) g u) : g = g' := by
  rw [tallyAt_apply] at h
  by_contra hn
  rw [if_neg fun h' => hn h'.1] at h
  exact Nat.lt_irrefl 0 h

/-- What is owed is owed at the receive semaphores of the transfers left. -/
theorem debt_pos {c : Dev nD} {g : GSem nD τ sig} {u : Unit} : (l : List (Fin 6)) → 0 < debt c l g u → ∃ j ∈ l, g = cell (toD c j, kRcv j)
  | [], h => absurd h (Nat.lt_irrefl 0)
  | j :: l, h => by
    unfold debt at h
    rw [Pi.add_apply, Finsupp.add_apply] at h
    rcases Nat.eq_zero_or_pos (debt c l g u) with h0 | h0
    · rw [h0, Nat.zero_add] at h
      exact ⟨j, List.mem_cons_self, tallyAt_pos h⟩
    · obtain ⟨j', hj', e⟩ := debt_pos l h0
      exact ⟨j', List.mem_cons_of_mem _ hj', e⟩

/-- At the start a device owes at receive semaphores and at its neighbours' barriers. -/
theorem O₀_pos {c : Dev nD} {g : GSem nD τ sig} {u : Unit} (h : 0 < O₀ c g u) : ∃ c' k, g = cell (c', k) ∧ 0 < rank (some k) := by
  unfold O₀ O₁ at h
  rw [Pi.add_apply, Finsupp.add_apply, Pi.add_apply, Finsupp.add_apply] at h
  by_cases h1 : 0 < (tallyAt (cell (prv c, kBar)) () 1 : CellTallies nD τ sig Unit) g u
  · exact ⟨_, _, tallyAt_pos h1, by decide⟩
  by_cases h2 : 0 < (tallyAt (cell (nxt c, kBar)) () 1 : CellTallies nD τ sig Unit) g u
  · exact ⟨_, _, tallyAt_pos h2, by decide⟩
  obtain ⟨j, -, e⟩ := debt_pos (c := c) (g := g) (u := u) order (by omega)
  exact ⟨_, _, e, by clear e; revert j; decide⟩

omit [FloatOps F] in
/-- A device may wait at a semaphore whose level is below those of all the transfers it has left to start. -/
theorem mayWait_debt (c : Dev nD) (sm : SemLoc sig) (l : List (Fin 6)) (h : ∀ j ∈ l, rank (role sm) < rank (some (kRcv j))) :
    (levAts L lv : sProp 𝕄) ⊢ MayWait (c : Thread nD τ) sm () (debt c l) :=
  MayOwe.of_cut (L := L) (lev := lv) (rank (role sm)) (fun p hp => by rw [Finset.mem_singleton.mp hp, L_tc]; exact Finset.mem_singleton_self _)
    (fun g u hg => by obtain ⟨j, hj, rfl⟩ := debt_pos l hg; exact Finset.mem_singleton_self _)
    (fun p hp => by rw [Finset.mem_singleton.mp hp]; exact le_refl _)
    (fun g u hg => by obtain ⟨j, hj, rfl⟩ := debt_pos l hg; rw [lv_cell]; exact h j hj)

omit [FloatOps F] in
/-- At the start a device may wait at a semaphore the protocol does not use, and so it may when it owes nothing. -/
theorem mayWait_stage (c : Dev nD) (q : DmaSem sig) (hq : role (.dma q) = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by obtain ⟨c', k, rfl, -⟩ := O₀_pos hg; exact Finset.mem_singleton_self _)
      (fun p hp => by rw [Finset.mem_singleton.mp hp]; show rank (role (.dma q)) ≤ 0; rw [hq]; exact le_refl _)
      (fun g u hg => by obtain ⟨c', k, rfl, hk⟩ := O₀_pos hg; rw [lv_cell]; exact hk)
  · rw [MayWait_zero]; iintro -; iempintro

end Cert.Gather
-- ==== Proof.Steps.lean ====
/-
# One operation at a time

What each kind of operation in the kernel does to what a device holds: starting a transfer, waiting for one, forming a
product in a stage, starting the copy of a stage out to its rows of the result, and waiting for that copy. Each rule is
stated once, for every transfer, half and stage.
-/
module

public import proofs.«01_k».proof.Proof.Schedule

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

/-- No region of the kernel is a loop that needs a variant. -/
abbrev 𝒱₀ : Variants := Variants.none

/-- What device `c` holds suffices to run `p` on it and reach `Q`. -/
abbrev Runs {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- A program run in front of another: its own rule, then the rest at whatever it returns. -/
theorem runs_then {α β : Type} {c : Dev nD} {p : Prog (TpuEff nD τ sig (Elt F) Λ₀ .tc) α} {k : α → Prog (TpuEff nD τ sig (Elt F) Λ₀ .tc) β}
    {P : sProp 𝕄} {R : α → sProp 𝕄} {Q : β → sProp 𝕄} (h : P ⊢ Runs c p R) :
    P ⊢ iprop((∀ x, R x -∗ Runs c (k x) Q) -∗ Runs c (p >>= k) Q) := by
  unfold Runs
  rw [wp_bind]
  iintro HP Hk
  ihave Hp := h $$ HP
  iapply (wp_wand_r frame (wpE (defs₀ (F := F)) 𝒱₀ (c : Thread nD τ) none) Set.univ)
  isplitl [Hp]
  · iexact Hp
  · iexact Hk

variable (m : (ℓ : Loc nD τ sig) → Buf (Elt F) ℓ)

/-! ## What a device holds -/

/-- Every semaphore of the protocol, on every device, at its first round. -/
def records (K : Dev nD × Kind13 → ℕ) : sProp 𝕄 :=
  iprop(bigSep Finset.univ (fun ck => cellInv ER (Rd m) (K ck) (cell ck)) ∗ bigSep Finset.univ (fun ck => reached ER (cell ck) 0))

instance records_persistent (K : Dev nD × Kind13 → ℕ) : BI.Persistent (records m K) := by unfold records; infer_instance

theorem records_inv (K : Dev nD × Kind13 → ℕ) (ck : Dev nD × Kind13) : records m K ⊢ cellInv ER (Rd m) (K ck) (cell ck) := by
  have h : bigSep Finset.univ (fun ck => cellInv ER (Rd m) (K ck) (cell ck)) ⊢ cellInv ER (Rd m) (K ck) (cell ck) := bigSep_elim (Finset.mem_univ ck)
  unfold records
  iintro ⟨Hi, -⟩
  iapply h $$ Hi
theorem records_reached (K : Dev nD × Kind13 → ℕ) (ck : Dev nD × Kind13) : records m K ⊢ reached ER (cell ck) 0 := by
  have h : bigSep Finset.univ (fun ck => reached ER (cell ck) 0 : Dev nD × Kind13 → sProp 𝕄) ⊢ reached ER (cell ck) 0 := bigSep_elim (Finset.mem_univ ck)
  unfold records
  iintro ⟨-, Hi⟩
  iapply h $$ Hi

/-- What device `c` owes, whatever it has waited for so far. -/
def owing (c : Dev nD) (O : CellTallies nD τ sig Unit) : sProp 𝕄 := iprop(∃ W, owes (c : Thread nD τ) O W)

/-- The rights to pay the two signals of device `c`'s transfer `j`. -/
def fares (c : Dev nD) (j : Fin 6) : sProp 𝕄 := iprop(dutyTok ER (cell (c, kSnd j)) 0 false ∗ dutyTok ER (cell (toD c j, kRcv j)) 0 false)
/-- The first round of a semaphore of device `c`, none of it waited for. -/
def fresh (c : Dev nD) (k : Kind13) : sProp 𝕄 := atPos ER (cell (c, k)) 0 ∅ 0
/-- What a wait at a transfer's semaphore takes. -/
def ticket (c : Dev nD) (k : Fin 6 ⊕ Fin 6) : sProp 𝕄 := cred (tallyAt (cell (c, .inr k)) () N)
/-- A semaphore of device `c` at zero, free for the device's own use. -/
def idle (c : Dev nD) (sm : SemLoc sig) : sProp 𝕄 := semVal ((c : Thread nD τ), sm) 0

/-- The rounded `B`, in its buffer on device `c`. -/
def bAt (c : Dev nD) : sProp 𝕄 := (c : Thread nD τ).loc cc0_scratch1 ↦{fullShare} bBf m c
/-- Stage `e` of device `c`, whatever it holds. -/
def anyStage (c : Dev nD) (e : Fin 2) : sProp 𝕄 := iprop(∃ f, (stage e).view.loc (c : Thread nD τ) ↦[(stage e).view.set]{fullShare} f)
/-- Stage `e` of device `c`, holding the product of half `h` of slot `s`. -/
def ready (c : Dev nD) (s : Fin 4) (h : Fin 2) (e : Fin 2) : sProp 𝕄 :=
  iprop(∃ f, ⌜(stage e).view.read (Elt F) f = tile m c (owner c s) h⌝ ∗ (stage e).view.loc (c : Thread nD τ) ↦[(stage e).view.set]{fullShare} f)
/-- The rows of device `c`'s result that come from half `h` of device `o`'s block, at the contents `f`. -/
def rowsAt (c o : Dev nD) (h : Fin 2) (f : (main_v1 : Ref sig .tc).ty.Contents (Elt F)) : sProp 𝕄 :=
  (chunk o h).view.loc (c : Thread nD τ) ↦[(chunk o h).view.set]{fullShare} f
/-- Those rows, whatever they hold. -/
def anyRows (c : Dev nD) (s : Fin 4) (h : Fin 2) : sProp 𝕄 := iprop(∃ f, rowsAt c (owner c s) h f)
/-- Those rows, holding the result. -/
def doneRows (c : Dev nD) (s : Fin 4) (h : Fin 2) : sProp 𝕄 := rowsAt c (owner c s) h (outF m c)

/-- What one copy out credits. -/
abbrev Nout : ℕ := (chunk 0 0).view.dmaCredit
theorem Nout_pos : 0 < Nout := View.dmaCredit_pos _ (by decide)

/-- The copy of stage `e` out to the rows of half `h` of slot `s` under way: at its end, the rows hold the result. -/
def flying (c : Dev nD) (s : Fin 4) (h : Fin 2) (e : Fin 2) : sProp 𝕄 :=
  Flight (Ix := Unit) countersEmb (c : Thread nD τ) (.dma (outS e)) () Nout iprop(doneRows m c s h ∗ anyStage c e)

/-- What loading half `h` of slot `s` gives once it has been filled. -/
abbrev ld (c : Dev nD) (s : Fin 4) (h : Fin 2) : Vec F S1x768x768 .bf16 :=
  (Memref.whole cc0_scratch0).view.readAt (Elt F) (halfR s h).toLoadRect (agF m c)

/-! ## The transfers -/

theorem half_credit (s : Fin 4) (h : Fin 2) : (half s h).view.dmaCredit = N := rfl

/-- Starting transfer `j`: the share it borrows of its source and the place it writes go with it, and so do the rights to
its two signals; what comes back is the ticket for its end here, and one debt less. -/
theorem step_send (K : Dev nD × Kind13 → ℕ) (c : Dev nD) (j : Fin 6) (l : List (Fin 6)) (n : Dev nD) (hn : n = toD c j)
    {hsc : (half (dstAt j).1 (dstAt j).2).view.ref.isScScratch = false} {hsrc} {hdst} {hsem}
    {α : Type} {k : PUnit → Prog (TpuEff nD τ sig (Elt F) Λ₀ .tc) α} {Q : α → sProp 𝕄} :
    iprop(records m K ∗ hp c (srcAt j) (lent j) (agF m c) ∗ place (toD c j) j ∗ fares c j ∗ owing c (debt c (j :: l)))
      ⊢ iprop((ticket c (.inl j) ∗ owing c (debt c l) -∗ Runs c (k ⟨⟩) Q)
        -∗ Runs c (.op (.enqueueDma (half (srcAt j).1 (srcAt j).2)
            (.remote (Dev.tc n : Thread nD τ) (half (dstAt j).1 (dstAt j).2) (.dma (sndS j)) hsc) (.dma (rcvS j)) hsrc hdst hsem) k) Q) := by
  subst hn
  unfold place hp fares owing ticket
  iintro ⟨#Hrec, Hs, ⟨%fd, Hd⟩, ⟨Ht1, Ht2⟩, ⟨%W, HO⟩⟩ Hk
  iapply (Rounds.wp_send_pointsTo 𝒱₀ ER (Rd m) (c : Thread nD τ) none (κ₁ := K (c, kSnd j)) (κ₂ := K (toD c j, kRcv j))
    (c' := (toD c j : Thread nD τ)) (sS := semOf (kSnd j)) (sem := semOf (kRcv j)) (r₁ := 0) (r₂ := 0) (d₁ := false) (d₂ := false) (fd := fd)
    ((duties_cell m c (kSnd j)).symm ▸ Finset.mem_singleton_self _) ((duties_cell m (toD c j) (kRcv j)).symm ▸ Finset.mem_singleton_self _)
    () () N (half_credit _ _) (amount_cell m c (kSnd j) 0 false) (amount_cell m (toD c j) (kRcv j) 0 false) (debt c l) rfl
    (by rw [payload_cell m c (kSnd j)]; exact .rfl)
    (by rw [payload_cell m (toD c j) (kRcv j)]; exact Entails.of_eq (pointsTo_congr fun i hi => lands m c j fd i hi)))
    $$ [Hs Hd HO Ht1 Ht2]
  · isplitr; · iapply (records_inv m K (c, kSnd j)); iexact Hrec
    isplitr; · iapply (records_inv m K (toD c j, kRcv j)); iexact Hrec
    isplitl [Hs]; · iexact Hs
    isplitl [Hd]; · iexact Hd
    isplitl [HO]; · iexact HO
    isplitl [Ht1]; · iexact Ht1
    isplitr; · iapply (records_reached m K (c, kSnd j)); iexact Hrec
    isplitl [Ht2]; · iexact Ht2
    iapply (records_reached m K (toD c j, kRcv j)); iexact Hrec
  iintro ⟨Hc, HO⟩
  iapply Hk
  isplitl [Hc]; · iexact Hc
  iexists W; iexact HO

/-- Waiting at a transfer's semaphore: its round is over, so the semaphore is idle again, and what the transfer brings is
there. -/
theorem step_take (K : Dev nD × Kind13 → ℕ) (c : Dev nD) (k : Fin 6 ⊕ Fin 6) (l : List (Fin 6))
    (hl : ∀ j ∈ l, rank (some (.inr k)) < rank (some (kRcv j))) {q : DmaSem sig} (hq : semOf (.inr k) = .dma q)
    (s : Fin 4) (h : Fin 2) {src : Memref sig .tc .vmem S768x768 .bf16} {hsrc} {hdst}
    {α : Type} {kk : PUnit → Prog (TpuEff nD τ sig (Elt F) Λ₀ .tc) α} {Q : α → sProp 𝕄} :
    iprop(records m K ∗ levAts L lv ∗ ticket c k ∗ fresh c (.inr k) ∗ owing c (debt c l))
      ⊢ iprop((pay m c false (some (.inr k)) ∗ idle c (semOf (.inr k)) ∗ owing c (debt c l) -∗ Runs c (kk ⟨⟩) Q)
        -∗ Runs c (.op (.waitDma2 q src (half s h) hsrc hdst) kk) Q) := by
  have hE : (Rd m).expect ((c : Thread nD τ), semOf (.inr k)) 0 = N := expect_xfer m c k
  have hR : bigSep ((Rd m).duties ((c : Thread nD τ), semOf (.inr k)) 0 \ ∅) (fun d => (Rd m).payload ((c : Thread nD τ), semOf (.inr k)) 0 d)
      = pay m c false (some (.inr k)) := rest_xfer m c k
  have hI : records m K ⊢ cellInv ER (Rd m) (K (c, .inr k)) ((c : Thread nD τ), semOf (.inr k)) := records_inv m K (c, .inr k)
  have hN : (half s h).view.dmaCredit = N := half_credit s h
  have hr : role (.dma q) = some (.inr k) := hq ▸ role_semOf (.inr k)
  show iprop(records m K ∗ levAts L lv ∗ cred (tallyAt ((c : Thread nD τ), semOf (.inr k)) () N)
      ∗ atPos ER ((c : Thread nD τ), semOf (.inr k)) 0 ∅ 0 ∗ owing c (debt c l)) ⊢ _
  unfold owing idle
  rw [hq] at hE hR hI ⊢
  iintro ⟨#Hrec, #Hlev, Hc, Hat, ⟨%W, HO⟩⟩ Hk
  ihave #Hinv := hI $$ Hrec
  ihave Hmw := (mayWait_debt c (.dma q) l (by rw [hr]; exact hl)) $$ Hlev
  iapply (Rounds.wp_wait_rest_token 𝒱₀ ER (Rd m) (c : Thread nD τ) none (κ := K (c, .inr k)) (wpE_waitDma2_eq 𝒱₀ (c : Thread nD τ) none Set.univ)
      (Set.mem_univ _) () (O := debt c l) (W := W) (R := 0) (m := 0) (T := ∅) (sm := .dma q) (k' := (half s h).view.dmaCredit)
      (by rw [hE, hN, Nat.zero_add])) $$ [Hc HO Hat Hmw]
  · isplitr; · iexact Hinv
    isplitl [Hc]; · rw [hN]; iexact Hc
    isplitl [HO]; · iexact HO
    isplitl [Hmw]; · iexact Hmw
    iexact Hat
  iintro ⟨HO, Hat, -, Hpay⟩
  imod (cell_close ER (Rd m) (Set.mem_univ (K (c, .inr k))) (fun h => h) (R := 0 + 1) (duties_later m _)) $$ [Hat] with Hz
  · isplitr; · iexact Hinv
    iexact Hat
  iapply Hk
  isplitl [Hpay]; · iapply (Entails.of_eq hR); iexact Hpay
  isplitl [Hz]; · iexact Hz
  iexists (insert (SemLoc.dma q, ()) W); iexact HO

/-- Waiting for a half to arrive. -/
theorem step_arrive (K : Dev nD × Kind13 → ℕ) (c : Dev nD) (j : Fin 6) (l : List (Fin 6))
    (hl : ∀ i ∈ l, rank (some (kRcv j)) < rank (some (kRcv i))) {src : Memref sig .tc .vmem S768x768 .bf16} {hsrc} {hdst}
    {α : Type} {k : PUnit → Prog (TpuEff nD τ sig (Elt F) Λ₀ .tc) α} {Q : α → sProp 𝕄} :
    iprop(records m K ∗ levAts L lv ∗ ticket c (.inr j) ∗ fresh c (kRcv j) ∗ owing c (debt c l))
      ⊢ iprop((hp c (dstAt j) fullShare (agF m c) ∗ idle c (.dma (rcvS j)) ∗ owing c (debt c l) -∗ Runs c (k ⟨⟩) Q)
        -∗ Runs c (.op (.waitDma2 (rcvS j) src (half (dstAt j).1 (dstAt j).2) hsrc hdst) k) Q) :=
  step_take m K c (.inr j) l hl (q := rcvS j) rfl (dstAt j).1 (dstAt j).2

/-- Waiting for a half to have left, with nothing more to start: the share lent for it is back. -/
theorem step_back (K : Dev nD × Kind13 → ℕ) (c : Dev nD) (j : Fin 6) {src : Memref sig .tc .vmem S768x768 .bf16} {hsrc} {hdst}
    {α : Type} {k : PUnit → Prog (TpuEff nD τ sig (Elt F) Λ₀ .tc) α} {Q : α → sProp 𝕄} :
    iprop(records m K ∗ levAts L lv ∗ ticket c (.inl j) ∗ fresh c (kSnd j) ∗ owing c (debt c []))
      ⊢ iprop((hp c (srcAt j) (lent j) (agF m c) ∗ idle c (.dma (sndS j)) ∗ owing c (debt c []) -∗ Runs c (k ⟨⟩) Q)
        -∗ Runs c (.op (.waitDma2 (sndS j) src (half (srcAt j).1 (srcAt j).2) hsrc hdst) k) Q) :=
  step_take m K c (.inl j) [] (fun _ h => nomatch h) (q := sndS j) rfl (srcAt j).1 (srcAt j).2

/-! ## The products -/

/-- Loading a half that has been filled, at any share of it. -/
theorem step_load (c : Dev nD) (s : Fin 4) (h : Fin 2) (q : PosShare TreeShare) {hl}
    {α : Type} {k : Vec F S1x768x768 .bf16 → Prog (TpuEff nD τ sig (Elt F) Λ₀ .tc) α} {Q : α → sProp 𝕄} :
    hp c (s, h) q (agF m c)
      ⊢ iprop((hp c (s, h) q (agF m c) -∗ Runs c (k (ld m c s h)) Q)
        -∗ Runs c (.op (.load (Memref.whole cc0_scratch0) (halfR s h).toLoadRect hl) k) Q) := by
  unfold hp
  refine wp_load 𝒱₀ (c : Thread nD τ) none Set.univ (m := Memref.whole cc0_scratch0) (r := (halfR s h).toLoadRect) ?_
  intro i hi
  show i ∈ (half s h).view.set
  rw [Memref.set_view_squeeze]
  exact (View.set_slice (Memref.whole cc0_scratch0).view (halfR s h)) ▸ hi

/-- Forming the product of a half with the rounded `B` in stage `e`. -/
theorem step_form (c : Dev nD) (s : Fin 4) (h : Fin 2) (e : Fin 2) (P : Vec F S768x1536 .bf16 → FVec F S1x768x1536 .f32)
    (hP : P (bBf m c) = k0_pay3 (ld m c s h) (bBf m c)) {hl₁} {hl₂} {hx} {hm}
    {α : Type} {k : PUnit → Prog (TpuEff nD τ sig (Elt F) Λ₀ .tc) α} {Q : α → sProp 𝕄} :
    iprop(bAt m c ∗ anyStage c e)
      ⊢ iprop((bAt m c ∗ ready m c s h e -∗ Runs c (k ⟨⟩) Q)
        -∗ Runs c (.op (.load (Memref.whole cc0_scratch1) (Rect.unit (s := S768x1536) ![0, 0] S768x1536.size inb_S768x1536_S768x1536_0_0).toLoadRect hl₁)
            fun b : Vec F S768x1536 .bf16 => .op (.load (Memref.whole cc0_scratch2) (stageR e).toLoadRect hl₂)
              fun _ => .op (.store (Memref.whole cc0_scratch2) (stageR e) (P b) Finset.univ hx hm) k) Q) := by
  unfold bAt anyStage ready
  iintro ⟨Hb, ⟨%f, Hst⟩⟩ Hk
  iapply (wp_load 𝒱₀ (c : Thread nD τ) none Set.univ (m := Memref.whole cc0_scratch1) (Finset.subset_univ _)) $$ Hb
  iintro Hb
  rw [show (Memref.whole cc0_scratch1).view.readAt (Elt F) (Rect.unit (s := S768x1536) ![0, 0] S768x1536.size inb_S768x1536_S768x1536_0_0).toLoadRect
      (bBf m c) = bBf m c from Memref.readAt_unit_zero (Elt F) cc0_scratch1 (by decide) _ (bBf m c)]
  have hs : (stage e).view.set = ((Memref.whole cc0_scratch2).access (stageR e)).set := Memref.set_view_squeeze _ _
  iapply (wp_load_rect 𝒱₀ (c : Thread nD τ) none Set.univ (m := Memref.whole cc0_scratch2) (r := stageR e) (S := (stage e).view.set) (by rw [hs])) $$ Hst
  iintro Hst
  iapply (wp_store 𝒱₀ (c : Thread nD τ) none Set.univ (m := Memref.whole cc0_scratch2) (r := stageR e) (Mk := Finset.univ) (S := (stage e).view.set) (by rw [hs]; exact subset_rfl)) $$ Hst
  iintro Hst
  iapply Hk
  isplitl [Hb]; · iexact Hb
  rw [hP]
  iexists _
  isplitr
  rotate_left
  · iexact Hst
  ipureintro
  exact read_stage m c s h e f

/-- Starting the copy of stage `e` out to the rows its product belongs to. -/
theorem step_out (c : Dev nD) (s : Fin 4) (h : Fin 2) (e : Fin 2) (off : Fin 2 → ℕ) (inb : ∀ a, off a + S768x1536.size a ≤ S6144x1536.size a)
    (hoff : off = ![1536 * (owner c s).val + 768 * h.val, 0]) {hsrc} {hdst} {hsem}
    {α : Type} {k : PUnit → Prog (TpuEff nD τ sig (Elt F) Λ₀ .tc) α} {Q : α → sProp 𝕄} :
    iprop(ready m c s h e ∗ anyRows c s h ∗ idle c (.dma (outS e)))
      ⊢ iprop((flying m c s h e -∗ Runs c (k ⟨⟩) Q)
        -∗ Runs c (.op (.enqueueDma (stage e) (.here ((Memref.whole main_v1).slice (Rect.unit (s := S6144x1536) off S768x1536.size inb) (fun _ => rfl)))
            (.dma (outS e)) hsrc hdst hsem) k) Q) := by
  subst hoff
  unfold ready anyRows rowsAt idle flying doneRows rowsAt anyStage
  iintro ⟨⟨%f, %hf, Hst⟩, ⟨%g, Hr⟩, Hz⟩ Hk
  iapply (wp_dmaLocal countersEmb 𝒱₀ (c : Thread nD τ) none (src := stage e) (via := .same) (dst := chunk (owner c s) h) (fs := f) (fd := g)
    (Sd := (chunk (owner c s) h).view.set) () Nout rfl Nout_pos subset_rfl) $$ [Hst Hr Hz]
  · isplitl [Hst]; · iexact Hst
    isplitl [Hr]; · iexact Hr
    iexact Hz
  iintro HF
  iapply Hk
  iapply (Flight_mono countersEmb (c : Thread nD τ) ?_) $$ HF
  iintro ⟨Hr, Hst⟩
  isplitl [Hr]
  · iapply (Entails.of_eq (pointsTo_congr fun i hi => ?_)) $$ Hr
    show (chunk (owner c s) h).view.write (Elt F) g ((stage e).view.read (Elt F) f) Finset.univ i = outF m c i
    rw [hf]
    exact write_chunk m c (owner c s) h g i hi
  · iexists f; iexact Hst

/-- Waiting for the copy out of stage `e`. -/
theorem step_done (c : Dev nD) (s : Fin 4) (h : Fin 2) (e : Fin 2) {src : Memref sig .tc .vmem S768x1536 .f32}
    {off : Fin 2 → ℕ} {inb : ∀ a, off a + S768x1536.size a ≤ S6144x1536.size a} {hsrc} {hdst}
    {α : Type} {k : PUnit → Prog (TpuEff nD τ sig (Elt F) Λ₀ .tc) α} {Q : α → sProp 𝕄} :
    iprop(flying m c s h e ∗ owing c (debt c []))
      ⊢ iprop((doneRows m c s h ∗ anyStage c e ∗ idle c (.dma (outS e)) ∗ owing c (debt c []) -∗ Runs c (k ⟨⟩) Q)
        -∗ Runs c (.op (.waitDma2 (outS e) src ((Memref.whole main_v1).slice (Rect.unit (s := S6144x1536) off S768x1536.size inb) (fun _ => rfl)) hsrc hdst) k) Q) := by
  unfold flying owing idle
  iintro ⟨HF, ⟨%W, HO⟩⟩ Hk
  iapply (wp_waitLocal countersEmb 𝒱₀ (c : Thread nD τ) none
      (dstw := (Memref.whole main_v1).slice (Rect.unit (s := S6144x1536) off S768x1536.size inb) (fun _ => rfl)) () (N := Nout) rfl) $$ [HF HO]
  · isplitl [HF]; · iexact HF
    iexact HO
  iintro ⟨⟨Hr, Hst⟩, Hz, HO⟩
  iapply Hk
  isplitl [Hr]; · iexact Hr
  isplitl [Hst]; · iexact Hst
  isplitl [Hz]; · iexact Hz
  iexists _; iexact HO

end Cert.Gather
-- ==== Proof.Pieces.lean ====
/-
# The buffers and their pieces

A buffer held whole is its pieces held side by side: the gather buffer its eight halves, the product buffer its two
stages, the result its eight chunks of rows.
-/
module

public import proofs.«01_k».proof.Proof.Steps

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- A buffer whose elements are dealt out to finitely many pieces, each element to one of them. -/
theorem held_in_pieces {T : Type} [Fintype T] [DecidableEq T] (ℓ : Loc nD τ sig) (K : T → Finset (Idx ℓ)) (p : Idx ℓ → T)
    (hK : ∀ t i, i ∈ K t ↔ p i = t) (f : Buf (Elt F) ℓ) :
    (ℓ ↦{fullShare} f : sProp 𝕄) = bigSep Finset.univ fun t => ℓ ↦[K t]{fullShare} f := by
  rw [← pointsTo_biUnion Finset.univ K fun a _ b _ hab => Finset.disjoint_left.mpr fun i ha hb => hab (((hK a i).mp ha).symm.trans ((hK b i).mp hb))]
  rw [show Finset.univ.biUnion K = (Finset.univ : Finset (Idx ℓ)) from
    Finset.eq_univ_iff_forall.mpr fun i => Finset.mem_biUnion.mpr ⟨p i, Finset.mem_univ _, (hK _ i).mpr rfl⟩]

/-- The gather buffer in its eight halves. -/
theorem gather_pieces (c : Dev nD) (f : (cc0_scratch0 : Ref sig .tc).ty.Contents (Elt F)) :
    ((c : Thread nD τ).loc cc0_scratch0 ↦{fullShare} f : sProp 𝕄)
      = iprop(hp c (0, 0) fullShare f ∗ hp c (0, 1) fullShare f ∗ hp c (1, 0) fullShare f ∗ hp c (1, 1) fullShare f
        ∗ hp c (2, 0) fullShare f ∗ hp c (2, 1) fullShare f ∗ hp c (3, 0) fullShare f ∗ hp c (3, 1) fullShare f) := by
  refine (held_in_pieces ((c : Thread nD τ).loc cc0_scratch0) (fun sh : Fin 4 × Fin 2 => (half sh.1 sh.2).view.set)
    (fun i : S4x1536x768.Idx => (i 0, ⟨(i 1).val / 768, by have h : (i 1).val < 1536 := (i 1).isLt; omega⟩)) ?_ f).trans
    (bigSep_univ_eq_bigSepL [(0, 0), (0, 1), (1, 0), (1, 1), (2, 0), (2, 1), (3, 0), (3, 1)] (by decide) (by decide) _)
  rintro ⟨s, h⟩ i
  refine (mem_half s h i).trans ⟨fun ⟨h0, h1⟩ => Prod.ext (Fin.ext h0) (Fin.ext h1), fun e => ?_⟩
  have e := Prod.ext_iff.mp e
  exact ⟨congrArg Fin.val e.1, congrArg Fin.val e.2⟩

/-- The product buffer in its two stages. -/
theorem stage_pieces (c : Dev nD) (f : (cc0_scratch2 : Ref sig .tc).ty.Contents (Elt F)) :
    ((c : Thread nD τ).loc cc0_scratch2 ↦{fullShare} f : sProp 𝕄)
      = iprop(((c : Thread nD τ).loc cc0_scratch2 ↦[(stage 0).view.set]{fullShare} f) ∗ ((c : Thread nD τ).loc cc0_scratch2 ↦[(stage 1).view.set]{fullShare} f)) := by
  refine (held_in_pieces ((c : Thread nD τ).loc cc0_scratch2) (fun e : Fin 2 => (stage e).view.set) (fun i : S2x768x1536.Idx => i 0) ?_ f).trans
    (bigSep_univ_eq_bigSepL [0, 1] (by decide) (by decide) _)
  exact fun e i => (mem_stage e i).trans ⟨fun h => Fin.ext h, fun h => congrArg Fin.val h⟩

/-- The result in its eight chunks of rows. -/
theorem rows_pieces (c : Dev nD) (f : (main_v1 : Ref sig .tc).ty.Contents (Elt F)) :
    ((c : Thread nD τ).loc main_v1 ↦{fullShare} f : sProp 𝕄)
      = iprop(rowsAt c (owner c 0) 0 f ∗ rowsAt c (owner c 0) 1 f ∗ rowsAt c (owner c 1) 0 f ∗ rowsAt c (owner c 1) 1 f
        ∗ rowsAt c (owner c 2) 0 f ∗ rowsAt c (owner c 2) 1 f ∗ rowsAt c (owner c 3) 0 f ∗ rowsAt c (owner c 3) 1 f) := by
  let own : Fin 4 ≃ Dev nD := Equiv.ofBijective (owner c) ⟨owner_injective c, owner_surjective c⟩
  refine (held_in_pieces ((c : Thread nD τ).loc main_v1) (fun sh : Fin 4 × Fin 2 => (chunk (owner c sh.1) sh.2).view.set)
    (fun i : S6144x1536.Idx => (own.symm ⟨(i 0).val / 1536, dev_lt (i 0)⟩, ⟨(i 0).val % 1536 / 768, part_lt (i 0)⟩)) ?_ f).trans
    (bigSep_univ_eq_bigSepL [(0, 0), (0, 1), (1, 0), (1, 1), (2, 0), (2, 1), (3, 0), (3, 1)] (by decide) (by decide) _)
  rintro ⟨s, h⟩ i
  have hi : (i 0).val < 6144 := (i 0).isLt
  refine (mem_chunk (owner c s) h i).trans ⟨fun e => Prod.ext (own.symm_apply_eq.mpr (Fin.ext ?_)) (Fin.ext ?_), fun e => ?_⟩
  · show (i 0).val / 1536 = (owner c s).val; omega
  · show (i 0).val % 1536 / 768 = h.val; omega
  · have e := Prod.ext_iff.mp e
    have e1 : (i 0).val / 1536 = (owner c s).val := congrArg Fin.val (own.symm_apply_eq.mp e.1)
    have e2 : (i 0).val % 1536 / 768 = h.val := congrArg Fin.val e.2
    omega

end Cert.Gather
-- ==== Proof.Body.lean ====
/-
# The kernel's run on one device, part by part

The kernel's text is cut into twelve stretches and a rest. For each of them: what the device needs of what it holds, and
what it holds after. A stretch that loads a half for a product formed in a later stretch says what it hands on.
-/
module

public import proofs.«01_k».proof.Proof.Steps

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

/-! ## Where the kernel's words point -/

theorem dev1_eq (c : Dev nD) : (⟨k0_dev1 c, k0_dev1_lt c⟩ : Dev nD) = prv c := by revert c; decide
theorem dev2_eq (c : Dev nD) : (⟨k0_dev2 c, k0_dev2_lt c⟩ : Dev nD) = nxt c := by revert c; decide
theorem dev3_eq (c : Dev nD) : (⟨k0_dev3 c, k0_dev3_lt c⟩ : Dev nD) = toD c 0 := by revert c; decide
theorem dev4_eq (c : Dev nD) : (⟨k0_dev4 c, k0_dev4_lt c⟩ : Dev nD) = toD c 1 := by revert c; decide
theorem dev5_eq (c : Dev nD) : (⟨k0_dev5 c, k0_dev5_lt c⟩ : Dev nD) = toD c 2 := by revert c; decide
theorem dev6_eq (c : Dev nD) : (⟨k0_dev6 c, k0_dev6_lt c⟩ : Dev nD) = toD c 4 := by revert c; decide
theorem dev7_eq (c : Dev nD) : (⟨k0_dev7 c, k0_dev7_lt c⟩ : Dev nD) = toD c 3 := by revert c; decide
theorem dev8_eq (c : Dev nD) : (⟨k0_dev8 c, k0_dev8_lt c⟩ : Dev nD) = toD c 5 := by revert c; decide

theorem off_own (c : Dev nD) (h : Fin 2) : k0_off1 c (BitVec.ofNat 32 (768 * h.val)) = ![1536 * (owner c 3).val + 768 * h.val, 0] := by
  revert c h; decide
theorem off_prv (c : Dev nD) (h : Fin 2) : k0_off2 c (BitVec.ofNat 32 (768 * h.val)) = ![1536 * (owner c 0).val + 768 * h.val, 0] := by
  revert c h; decide
theorem off_nxt (c : Dev nD) (h : Fin 2) : k0_off3 c 1#32 (BitVec.ofNat 32 (768 * h.val)) = ![1536 * (owner c 1).val + 768 * h.val, 0] := by
  revert c h; decide
theorem off_opp (c : Dev nD) (h : Fin 2) : k0_off3 c 2#32 (BitVec.ofNat 32 (768 * h.val)) = ![1536 * (owner c 2).val + 768 * h.val, 0] := by
  revert c h; decide

/-! ## The stretches -/

/-- A stretch of the kernel, on the kernel's buffers and semaphores. -/
abbrev onBufs {β : Type 1} (p : (arg0 : Memref sig .tc .vmem S1536x768 .f32) → arg0.IsWhole → (arg1 : Memref sig .tc .vmem S768x1536 .f32) → arg1.IsWhole
    → (arg2 : Memref sig .tc .hbm S6144x1536 .f32) → arg2.IsWhole → (arg3 : Memref sig .tc .vmem S4x1536x768 .bf16) → arg3.IsWhole
    → (arg4 : Memref sig .tc .vmem S768x1536 .bf16) → arg4.IsWhole → (arg5 : Memref sig .tc .vmem S2x768x1536 .f32) → arg5.IsWhole
    → DmaSems sig S6 → DmaSems sig S6 → DmaSems sig S2 → β) : β :=
  p (Memref.whole cc0_stg0_0) (Memref.isWhole_whole _) (Memref.whole cc0_stg1_0) (Memref.isWhole_whole _) (Memref.whole main_v1) (Memref.isWhole_whole _)
    (Memref.whole cc0_scratch0) (Memref.isWhole_whole _) (Memref.whole cc0_scratch1) (Memref.isWhole_whole _) (Memref.whole cc0_scratch2) (Memref.isWhole_whole _)
    cc0_scratch3 cc0_scratch4 cc0_scratch5

variable (m : (ℓ : Loc nD τ sig) → Buf (Elt F) ℓ)

/-- A share of a half as its two parts. -/
theorem hp_parts (c : Dev nD) (sh : Fin 4 × Fin 2) (q : PosShare TreeShare) (f : (cc0_scratch0 : Ref sig .tc).ty.Contents (Elt F)) :
    hp c sh q f ⊣⊢ iprop(hp c sh q.left f ∗ hp c sh q.right f) := by
  unfold hp
  exact pointsTo_share (PosShare.mem_left_op_right q)

/-- The second stretch: the own block goes out, its first half forward and its second half back; `B` is rounded into its buffer, and the
product of the own first half is formed. -/
theorem run2 (K : Dev nD × Kind13 → ℕ) (c : Dev nD) (v2 v5 : BitVec 32) :
    iprop(records m K ∗ hp c (3, 0) fullShare (agF m c) ∗ hp c (3, 1) fullShare (agF m c) ∗ place (nxt c) 0 ∗ place (prv c) 1 ∗ fares c 0 ∗ fares c 1
        ∗ owing c (debt c [0, 1, 2, 4, 3, 5]) ∗ ((c : Thread nD τ).loc cc0_stg1_0 ↦{fullShare} bIn m c)
        ∗ (∃ f, (c : Thread nD τ).loc cc0_scratch1 ↦{fullShare} f) ∗ anyStage c 0)
      ⊢ Runs c (onBufs (k0_part2 (F := F)) c v2 v5) (fun _ => iprop(hp c (3, 0) fullShare.right (agF m c) ∗ hp c (3, 1) fullShare.right (agF m c) ∗ ticket c (.inl 0) ∗ ticket c (.inl 1)
        ∗ owing c (debt c [2, 4, 3, 5]) ∗ ((c : Thread nD τ).loc cc0_stg1_0 ↦{fullShare} bIn m c) ∗ bAt m c ∗ ready m c 3 0 0)) := by
  rw [k0_part2_eq_skeleton]
  unfold onBufs k0_part2_skel
  simp only [Prog.lift, Prog.bind_op, Prog.bind_ret, Prog.pure_eq_ret]
  iintro ⟨#Hrec, Hs0, Hs1, Hp0, Hp1, Hf0, Hf1, HO, Hin, Hany, Hst⟩
  ihave Hpp := (hp_parts c (3, 0) fullShare (agF m c)).1 $$ Hs0
  icases Hpp with ⟨Hl0, Hr0⟩
  ihave Hpp := (hp_parts c (3, 1) fullShare (agF m c)).1 $$ Hs1
  icases Hpp with ⟨Hl1, Hr1⟩
  iapply (step_send m K c 0 [1, 2, 4, 3, 5] _ (dev3_eq c)) $$ [Hl0 Hp0 Hf0 HO]
  · isplitr; · iexact Hrec
    isplitl [Hl0]; · iexact Hl0
    isplitl [Hp0]; · iexact Hp0
    isplitl [Hf0]; · iexact Hf0
    iexact HO
  iintro ⟨Hc0, HO⟩
  iapply (step_send m K c 1 [2, 4, 3, 5] _ (dev4_eq c)) $$ [Hl1 Hp1 Hf1 HO]
  · isplitr; · iexact Hrec
    isplitl [Hl1]; · iexact Hl1
    isplitl [Hp1]; · iexact Hp1
    isplitl [Hf1]; · iexact Hf1
    iexact HO
  iintro ⟨Hc1, HO⟩
  icases Hany with ⟨%f, Hb⟩
  iapply (wp_load 𝒱₀ (c : Thread nD τ) none Set.univ (m := Memref.whole cc0_stg1_0) (Finset.subset_univ _)) $$ Hin
  iintro Hin
  rw [show (Memref.whole cc0_stg1_0).view.readAt (Elt F) (Rect.unit (s := S768x1536) ![0, 0] S768x1536.size inb_S768x1536_S768x1536_0_0).toLoadRect
      (bIn m c) = bIn m c from Memref.readAt_unit_zero (Elt F) cc0_stg1_0 (by decide) _ (bIn m c)]
  iapply (wp_load 𝒱₀ (c : Thread nD τ) none Set.univ (m := Memref.whole cc0_scratch1) (Finset.subset_univ _)) $$ Hb
  iintro Hb
  iapply (wp_store 𝒱₀ (c : Thread nD τ) none Set.univ (m := Memref.whole cc0_scratch1)
    (r := Rect.unit (s := S768x1536) ![0, 0] S768x1536.size inb_S768x1536_S768x1536_0_0) (Mk := Finset.univ) (Finset.subset_univ _)) $$ Hb
  iintro Hb
  ihave Hb2 := (show _ ⊢ bAt m c from Entails.of_eq (congrArg (fun b => ((c : Thread nD τ).loc cc0_scratch1 ↦{fullShare} b : sProp 𝕄))
    ((Memref.write_access_unit_zero_univ (Elt F) cc0_scratch1 (by decide) _ f (k0_pay2 (bIn m c))).trans (pay_b m c)))) $$ Hb
  iapply (step_load m c 3 0 fullShare.right) $$ Hr0
  iintro Hr0
  iapply (step_form m c 3 0 0 _ rfl) $$ [Hb2 Hst]
  · isplitl [Hb2]; · iexact Hb2
    iexact Hst
  iintro ⟨Hb2, Hst⟩
  rw [Runs, wp_ret]
  imodintro
  isplitl [Hr0]; · iexact Hr0
  isplitl [Hr1]; · iexact Hr1
  isplitl [Hc0]; · iexact Hc0
  isplitl [Hc1]; · iexact Hc1
  isplitl [HO]; · iexact HO
  isplitl [Hin]; · iexact Hin
  isplitl [Hb2]; · iexact Hb2
  iexact Hst

/-- The third stretch: the copy out of the first product starts; the product of the own second half is formed, and its copy out starts. -/
theorem run3 (c : Dev nD) (v2 v7 v54 : BitVec 32) :
    iprop(ready m c 3 0 0 ∗ idle c (.dma (outS 0)) ∗ idle c (.dma (outS 1)) ∗ anyRows c 3 0 ∗ anyRows c 3 1 ∗ hp c (3, 1) fullShare.right (agF m c)
        ∗ bAt m c ∗ anyStage c 1)
      ⊢ Runs c (onBufs (k0_part3 (F := F)) c v2 v7 v54) (fun _ => iprop(flying m c 3 0 0 ∗ flying m c 3 1 1 ∗ hp c (3, 1) fullShare.right (agF m c) ∗ bAt m c)) := by
  rw [k0_part3_eq_skeleton]
  unfold onBufs k0_part3_skel
  simp only [Prog.lift, Prog.bind_op, Prog.bind_ret, Prog.pure_eq_ret]
  iintro ⟨Hst0, Hz0, Hz1, Hw0, Hw1, Hr1, Hb, Hst⟩
  iapply (step_out m c 3 0 0 _ _ (off_own c 0)) $$ [Hst0 Hw0 Hz0]
  · isplitl [Hst0]; · iexact Hst0
    isplitl [Hw0]; · iexact Hw0
    iexact Hz0
  iintro Hy0
  iapply (step_load m c 3 1 fullShare.right) $$ Hr1
  iintro Hr1
  iapply (step_form m c 3 1 1 _ rfl) $$ [Hb Hst]
  · isplitl [Hb]; · iexact Hb
    iexact Hst
  iintro ⟨Hb, Hst⟩
  iapply (step_out m c 3 1 1 _ _ (off_own c 1)) $$ [Hst Hw1 Hz1]
  · isplitl [Hst]; · iexact Hst
    isplitl [Hw1]; · iexact Hw1
    iexact Hz1
  iintro Hy1
  rw [Runs, wp_ret]
  imodintro
  isplitl [Hy0]; · iexact Hy0
  isplitl [Hy1]; · iexact Hy1
  isplitl [Hr1]; · iexact Hr1
  iexact Hb

/-- The fourth stretch: the first half from the device before has landed; it goes on forward, and the own second half after it. -/
theorem run4 (K : Dev nD × Kind13 → ℕ) (c : Dev nD) (v5 v7 : BitVec 32) :
    iprop(records m K ∗ levAts L lv ∗ ticket c (.inr 0) ∗ fresh c (kRcv 0) ∗ owing c (debt c [2, 4, 3, 5]) ∗ hp c (3, 1) fullShare.right (agF m c)
        ∗ place (nxt c) 2 ∗ place (nxt c) 4 ∗ fares c 2 ∗ fares c 4)
      ⊢ Runs c (onBufs (k0_part4 (F := F)) c v5 v7) (fun _ => iprop(hp c (0, 0) fullShare.right (agF m c) ∗ hp c (3, 1) fullShare.right.right (agF m c) ∗ idle c (.dma (rcvS 0)) ∗ ticket c (.inl 2)
        ∗ ticket c (.inl 4) ∗ owing c (debt c [3, 5]))) := by
  rw [k0_part4_eq_skeleton]
  unfold onBufs k0_part4_skel
  simp only [Prog.lift, Prog.bind_op, Prog.bind_ret, Prog.pure_eq_ret]
  iintro ⟨#Hrec, #Hlev, Ht, Hf, HO, Hs, Hp2, Hp4, Hf2, Hf4⟩
  iapply (step_arrive m K c 0 [2, 4, 3, 5] (by decide)) $$ [Ht Hf HO]
  · isplitr; · iexact Hrec
    isplitr; · iexact Hlev
    isplitl [Ht]; · iexact Ht
    isplitl [Hf]; · iexact Hf
    iexact HO
  iintro ⟨Hg, Hz, HO⟩
  ihave Hg := (show hp c (dstAt 0) fullShare (agF m c) ⊢ hp c (0, 0) fullShare (agF m c) from .rfl) $$ Hg
  ihave Hpp := (hp_parts c (0, 0) fullShare (agF m c)).1 $$ Hg
  icases Hpp with ⟨Hgl, Hgr⟩
  ihave Hpp := (hp_parts c (3, 1) fullShare.right (agF m c)).1 $$ Hs
  icases Hpp with ⟨Hsl, Hsr⟩
  iapply (step_send m K c 2 [4, 3, 5] _ (dev5_eq c)) $$ [Hgl Hp2 Hf2 HO]
  · isplitr; · iexact Hrec
    isplitl [Hgl]; · iexact Hgl
    isplitl [Hp2]; · iexact Hp2
    isplitl [Hf2]; · iexact Hf2
    iexact HO
  iintro ⟨Hc2, HO⟩
  iapply (step_send m K c 4 [3, 5] _ (dev6_eq c)) $$ [Hsl Hp4 Hf4 HO]
  · isplitr; · iexact Hrec
    isplitl [Hsl]; · iexact Hsl
    isplitl [Hp4]; · iexact Hp4
    isplitl [Hf4]; · iexact Hf4
    iexact HO
  iintro ⟨Hc4, HO⟩
  rw [Runs, wp_ret]
  imodintro
  isplitl [Hgr]; · iexact Hgr
  isplitl [Hsr]; · iexact Hsr
  isplitl [Hz]; · iexact Hz
  isplitl [Hc2]; · iexact Hc2
  isplitl [Hc4]; · iexact Hc4
  iexact HO

/-- The fifth stretch: the second half from the device after has landed; it goes on back, and the own first half after it. The first half
from the device before is loaded. -/
theorem run5 (K : Dev nD × Kind13 → ℕ) (c : Dev nD) (v2 v5 : BitVec 32) :
    iprop(records m K ∗ levAts L lv ∗ ticket c (.inr 1) ∗ fresh c (kRcv 1) ∗ owing c (debt c [3, 5]) ∗ hp c (3, 0) fullShare.right (agF m c)
        ∗ place (prv c) 3 ∗ place (prv c) 5 ∗ fares c 3 ∗ fares c 5 ∗ hp c (0, 0) fullShare.right (agF m c))
      ⊢ Runs c (onBufs (k0_part5 (F := F)) c v2 v5) (fun x => iprop(⌜x.1 = k0_pay5 (ld m c 0 0)⌝ ∗ hp c (1, 1) fullShare.right (agF m c) ∗ hp c (3, 0) fullShare.right.right (agF m c) ∗ idle c (.dma (rcvS 1))
        ∗ ticket c (.inl 3) ∗ ticket c (.inl 5) ∗ owing c (debt c []) ∗ hp c (0, 0) fullShare.right (agF m c))) := by
  rw [k0_part5_eq_skeleton]
  unfold onBufs k0_part5_skel
  simp only [Prog.lift, Prog.bind_op, Prog.bind_ret, Prog.pure_eq_ret]
  iintro ⟨#Hrec, #Hlev, Ht, Hf, HO, Hs, Hp3, Hp5, Hf3, Hf5, Hd⟩
  iapply (step_arrive m K c 1 [3, 5] (by decide)) $$ [Ht Hf HO]
  · isplitr; · iexact Hrec
    isplitr; · iexact Hlev
    isplitl [Ht]; · iexact Ht
    isplitl [Hf]; · iexact Hf
    iexact HO
  iintro ⟨Hg, Hz, HO⟩
  ihave Hg := (show hp c (dstAt 1) fullShare (agF m c) ⊢ hp c (1, 1) fullShare (agF m c) from .rfl) $$ Hg
  ihave Hpp := (hp_parts c (1, 1) fullShare (agF m c)).1 $$ Hg
  icases Hpp with ⟨Hgl, Hgr⟩
  ihave Hpp := (hp_parts c (3, 0) fullShare.right (agF m c)).1 $$ Hs
  icases Hpp with ⟨Hsl, Hsr⟩
  iapply (step_send m K c 3 [5] _ (dev7_eq c)) $$ [Hgl Hp3 Hf3 HO]
  · isplitr; · iexact Hrec
    isplitl [Hgl]; · iexact Hgl
    isplitl [Hp3]; · iexact Hp3
    isplitl [Hf3]; · iexact Hf3
    iexact HO
  iintro ⟨Hc3, HO⟩
  iapply (step_send m K c 5 [] _ (dev8_eq c)) $$ [Hsl Hp5 Hf5 HO]
  · isplitr; · iexact Hrec
    isplitl [Hsl]; · iexact Hsl
    isplitl [Hp5]; · iexact Hp5
    isplitl [Hf5]; · iexact Hf5
    iexact HO
  iintro ⟨Hc5, HO⟩
  iapply (step_load m c 0 0 fullShare.right) $$ Hd
  iintro Hd
  rw [Runs, wp_ret]
  imodintro
  isplitr; · ipureintro; exact rfl
  isplitl [Hgr]; · iexact Hgr
  isplitl [Hsr]; · iexact Hsr
  isplitl [Hz]; · iexact Hz
  isplitl [Hc3]; · iexact Hc3
  isplitl [Hc5]; · iexact Hc5
  isplitl [HO]; · iexact HO
  iexact Hd

/-- The sixth stretch: the first copy out is over, and the stage takes the product of the first half from the device before; its copy out
starts. The second half from the device after is loaded. The second copy out is over. -/
theorem run6 (c : Dev nD) (v2 v135 : BitVec 32) :
    iprop(flying m c 3 0 0 ∗ owing c (debt c []) ∗ bAt m c ∗ anyRows c 0 0 ∗ hp c (1, 1) fullShare.right (agF m c) ∗ flying m c 3 1 1)
      ⊢ Runs c (onBufs (k0_part6 (F := F)) c v2 (k0_pay5 (ld m c 0 0)) v135) (fun x => iprop(⌜x.1 = k0_pay7 (ld m c 1 1)⌝ ∗ doneRows m c 3 0 ∗ doneRows m c 3 1 ∗ flying m c 0 0 0 ∗ anyStage c 1 ∗ idle c (.dma (outS 1))
        ∗ owing c (debt c []) ∗ bAt m c ∗ hp c (1, 1) fullShare.right (agF m c))) := by
  rw [k0_part6_eq_skeleton]
  unfold onBufs k0_part6_skel
  simp only [Prog.lift, Prog.bind_op, Prog.bind_ret, Prog.pure_eq_ret]
  iintro ⟨Hy0, HO, Hb, Hw, Hd, Hy1⟩
  iapply (step_done m c 3 0 0) $$ [Hy0 HO]
  · isplitl [Hy0]; · iexact Hy0
    iexact HO
  iintro ⟨Hw0, Hst, Hz, HO⟩
  iapply (step_form m c 0 0 0 _ rfl) $$ [Hb Hst]
  · isplitl [Hb]; · iexact Hb
    iexact Hst
  iintro ⟨Hb, Hst⟩
  iapply (step_out m c 0 0 0 _ _ (off_prv c 0)) $$ [Hst Hw Hz]
  · isplitl [Hst]; · iexact Hst
    isplitl [Hw]; · iexact Hw
    iexact Hz
  iintro Hy
  iapply (step_load m c 1 1 fullShare.right) $$ Hd
  iintro Hd
  iapply (step_done m c 3 1 1) $$ [Hy1 HO]
  · isplitl [Hy1]; · iexact Hy1
    iexact HO
  iintro ⟨Hw1, Hst, Hz, HO⟩
  rw [Runs, wp_ret]
  imodintro
  isplitr; · ipureintro; exact rfl
  isplitl [Hw0]; · iexact Hw0
  isplitl [Hw1]; · iexact Hw1
  isplitl [Hy]; · iexact Hy
  isplitl [Hst]; · iexact Hst
  isplitl [Hz]; · iexact Hz
  isplitl [HO]; · iexact HO
  isplitl [Hb]; · iexact Hb
  iexact Hd

/-- The seventh stretch: the product of the second half from the device after is formed, and its copy out starts. The first half from the
opposite device has landed, and is loaded. -/
theorem run7 (K : Dev nD × Kind13 → ℕ) (c : Dev nD) (v2 v7 v157 : BitVec 32) :
    iprop(records m K ∗ levAts L lv ∗ bAt m c ∗ anyStage c 1 ∗ anyRows c 1 1 ∗ idle c (.dma (outS 1)) ∗ ticket c (.inr 2) ∗ fresh c (kRcv 2)
        ∗ owing c (debt c []))
      ⊢ Runs c (onBufs (k0_part7 (F := F)) c v2 v7 (k0_pay7 (ld m c 1 1)) v157) (fun x => iprop(⌜x.1 = k0_pay9 (ld m c 2 0)⌝ ∗ bAt m c ∗ flying m c 1 1 1 ∗ hp c (2, 0) fullShare (agF m c) ∗ idle c (.dma (rcvS 2)) ∗ owing c (debt c []))) := by
  rw [k0_part7_eq_skeleton]
  unfold onBufs k0_part7_skel
  simp only [Prog.lift, Prog.bind_op, Prog.bind_ret, Prog.pure_eq_ret]
  iintro ⟨#Hrec, #Hlev, Hb, Hst, Hw, Hz, Ht, Hf, HO⟩
  iapply (step_form m c 1 1 1 _ rfl) $$ [Hb Hst]
  · isplitl [Hb]; · iexact Hb
    iexact Hst
  iintro ⟨Hb, Hst⟩
  iapply (step_out m c 1 1 1 _ _ (off_nxt c 1)) $$ [Hst Hw Hz]
  · isplitl [Hst]; · iexact Hst
    isplitl [Hw]; · iexact Hw
    iexact Hz
  iintro Hy
  iapply (step_arrive m K c 2 [] (by decide)) $$ [Ht Hf HO]
  · isplitr; · iexact Hrec
    isplitr; · iexact Hlev
    isplitl [Ht]; · iexact Ht
    isplitl [Hf]; · iexact Hf
    iexact HO
  iintro ⟨Hg, Hz2, HO⟩
  ihave Hg := (show hp c (dstAt 2) fullShare (agF m c) ⊢ hp c (2, 0) fullShare (agF m c) from .rfl) $$ Hg
  iapply (step_load m c 2 0 fullShare) $$ Hg
  iintro Hg
  rw [Runs, wp_ret]
  imodintro
  isplitr; · ipureintro; exact rfl
  isplitl [Hb]; · iexact Hb
  isplitl [Hy]; · iexact Hy
  isplitl [Hg]; · iexact Hg
  isplitl [Hz2]; · iexact Hz2
  iexact HO

/-- The eighth stretch: the copy out of the first stage is over, and it takes the product of the first half from the opposite device; its copy
out starts. The second half from the opposite device has landed, and is loaded. -/
theorem run8 (K : Dev nD × Kind13 → ℕ) (c : Dev nD) (v5 v187 : BitVec 32) :
    iprop(records m K ∗ levAts L lv ∗ flying m c 0 0 0 ∗ bAt m c ∗ anyRows c 2 0 ∗ ticket c (.inr 3) ∗ fresh c (kRcv 3) ∗ owing c (debt c []))
      ⊢ Runs c (onBufs (k0_part8 (F := F)) c v5 (k0_pay9 (ld m c 2 0)) v187) (fun x => iprop(⌜x = ld m c 2 1⌝ ∗ doneRows m c 0 0 ∗ bAt m c ∗ flying m c 2 0 0 ∗ hp c (2, 1) fullShare (agF m c) ∗ idle c (.dma (rcvS 3))
        ∗ owing c (debt c []))) := by
  rw [k0_part8_eq_skeleton]
  unfold onBufs k0_part8_skel
  simp only [Prog.lift, Prog.bind_op, Prog.bind_ret, Prog.pure_eq_ret]
  iintro ⟨#Hrec, #Hlev, Hy0, Hb, Hw, Ht, Hf, HO⟩
  iapply (step_done m c 0 0 0) $$ [Hy0 HO]
  · isplitl [Hy0]; · iexact Hy0
    iexact HO
  iintro ⟨Hw0, Hst, Hz, HO⟩
  iapply (step_form m c 2 0 0 _ rfl) $$ [Hb Hst]
  · isplitl [Hb]; · iexact Hb
    iexact Hst
  iintro ⟨Hb, Hst⟩
  iapply (step_out m c 2 0 0 _ _ (off_opp c 0)) $$ [Hst Hw Hz]
  · isplitl [Hst]; · iexact Hst
    isplitl [Hw]; · iexact Hw
    iexact Hz
  iintro Hy
  iapply (step_arrive m K c 3 [] (by decide)) $$ [Ht Hf HO]
  · isplitr; · iexact Hrec
    isplitr; · iexact Hlev
    isplitl [Ht]; · iexact Ht
    isplitl [Hf]; · iexact Hf
    iexact HO
  iintro ⟨Hg, Hz2, HO⟩
  ihave Hg := (show hp c (dstAt 3) fullShare (agF m c) ⊢ hp c (2, 1) fullShare (agF m c) from .rfl) $$ Hg
  iapply (step_load m c 2 1 fullShare) $$ Hg
  iintro Hg
  rw [Runs, wp_ret]
  imodintro
  isplitr; · ipureintro; exact rfl
  isplitl [Hw0]; · iexact Hw0
  isplitl [Hb]; · iexact Hb
  isplitl [Hy]; · iexact Hy
  isplitl [Hg]; · iexact Hg
  isplitl [Hz2]; · iexact Hz2
  iexact HO

/-- The ninth stretch: the copy out of the second stage is over, and it takes the product of the second half from the opposite device; its copy
out starts. -/
theorem run9 (c : Dev nD) (v2 v7 : BitVec 32) :
    iprop(flying m c 1 1 1 ∗ bAt m c ∗ anyRows c 2 1 ∗ owing c (debt c []))
      ⊢ Runs c (onBufs (k0_part9 (F := F)) c v2 v7 (ld m c 2 1)) (fun _ => iprop(doneRows m c 1 1 ∗ bAt m c ∗ flying m c 2 1 1 ∗ owing c (debt c []))) := by
  rw [k0_part9_eq_skeleton]
  unfold onBufs k0_part9_skel
  simp only [Prog.lift, Prog.bind_op, Prog.bind_ret, Prog.pure_eq_ret]
  iintro ⟨Hy1, Hb, Hw, HO⟩
  iapply (step_done m c 1 1 1) $$ [Hy1 HO]
  · isplitl [Hy1]; · iexact Hy1
    iexact HO
  iintro ⟨Hw1, Hst, Hz, HO⟩
  iapply (step_form m c 2 1 1 _ rfl) $$ [Hb Hst]
  · isplitl [Hb]; · iexact Hb
    iexact Hst
  iintro ⟨Hb, Hst⟩
  iapply (step_out m c 2 1 1 _ _ (off_opp c 1)) $$ [Hst Hw Hz]
  · isplitl [Hst]; · iexact Hst
    isplitl [Hw]; · iexact Hw
    iexact Hz
  iintro Hy
  rw [Runs, wp_ret]
  imodintro
  isplitl [Hw1]; · iexact Hw1
  isplitl [Hb]; · iexact Hb
  isplitl [Hy]; · iexact Hy
  iexact HO

/-- The tenth stretch: the second half from the device before has landed; once the first stage is free, it takes the product of that half, whose
copy out starts. -/
theorem run10 (K : Dev nD × Kind13 → ℕ) (c : Dev nD) (v2 v5 : BitVec 32) :
    iprop(records m K ∗ levAts L lv ∗ ticket c (.inr 4) ∗ fresh c (kRcv 4) ∗ owing c (debt c []) ∗ flying m c 2 0 0 ∗ bAt m c ∗ anyRows c 0 1)
      ⊢ Runs c (onBufs (k0_part10 (F := F)) c v2 v5) (fun _ => iprop(doneRows m c 2 0 ∗ bAt m c ∗ flying m c 0 1 0 ∗ hp c (0, 1) fullShare (agF m c) ∗ idle c (.dma (rcvS 4)) ∗ owing c (debt c []))) := by
  rw [k0_part10_eq_skeleton]
  unfold onBufs k0_part10_skel
  simp only [Prog.lift, Prog.bind_op, Prog.bind_ret, Prog.pure_eq_ret]
  iintro ⟨#Hrec, #Hlev, Ht, Hf, HO, Hy0, Hb, Hw⟩
  iapply (step_arrive m K c 4 [] (by decide)) $$ [Ht Hf HO]
  · isplitr; · iexact Hrec
    isplitr; · iexact Hlev
    isplitl [Ht]; · iexact Ht
    isplitl [Hf]; · iexact Hf
    iexact HO
  iintro ⟨Hg, Hz2, HO⟩
  ihave Hg := (show hp c (dstAt 4) fullShare (agF m c) ⊢ hp c (0, 1) fullShare (agF m c) from .rfl) $$ Hg
  iapply (step_load m c 0 1 fullShare) $$ Hg
  iintro Hg
  iapply (step_done m c 2 0 0) $$ [Hy0 HO]
  · isplitl [Hy0]; · iexact Hy0
    iexact HO
  iintro ⟨Hw0, Hst, Hz, HO⟩
  iapply (step_form m c 0 1 0 _ rfl) $$ [Hb Hst]
  · isplitl [Hb]; · iexact Hb
    iexact Hst
  iintro ⟨Hb, Hst⟩
  iapply (step_out m c 0 1 0 _ _ (off_prv c 1)) $$ [Hst Hw Hz]
  · isplitl [Hst]; · iexact Hst
    isplitl [Hw]; · iexact Hw
    iexact Hz
  iintro Hy
  rw [Runs, wp_ret]
  imodintro
  isplitl [Hw0]; · iexact Hw0
  isplitl [Hb]; · iexact Hb
  isplitl [Hy]; · iexact Hy
  isplitl [Hg]; · iexact Hg
  isplitl [Hz2]; · iexact Hz2
  iexact HO

/-- The eleventh stretch: the first half from the device after has landed; once the second stage is free, it takes the product of that half. -/
theorem run11 (K : Dev nD × Kind13 → ℕ) (c : Dev nD) (v2 v267 v0 : BitVec 32) :
    iprop(records m K ∗ levAts L lv ∗ ticket c (.inr 5) ∗ fresh c (kRcv 5) ∗ owing c (debt c []) ∗ flying m c 2 1 1 ∗ bAt m c)
      ⊢ Runs c (onBufs (k0_part11 (F := F)) c v2 v267 v0) (fun _ => iprop(doneRows m c 2 1 ∗ bAt m c ∗ ready m c 1 0 1 ∗ idle c (.dma (outS 1)) ∗ hp c (1, 0) fullShare (agF m c) ∗ idle c (.dma (rcvS 5))
        ∗ owing c (debt c []))) := by
  rw [k0_part11_eq_skeleton]
  unfold onBufs k0_part11_skel
  simp only [Prog.lift, Prog.bind_op, Prog.bind_ret, Prog.pure_eq_ret]
  iintro ⟨#Hrec, #Hlev, Ht, Hf, HO, Hy1, Hb⟩
  iapply (step_arrive m K c 5 [] (by decide)) $$ [Ht Hf HO]
  · isplitr; · iexact Hrec
    isplitr; · iexact Hlev
    isplitl [Ht]; · iexact Ht
    isplitl [Hf]; · iexact Hf
    iexact HO
  iintro ⟨Hg, Hz2, HO⟩
  ihave Hg := (show hp c (dstAt 5) fullShare (agF m c) ⊢ hp c (1, 0) fullShare (agF m c) from .rfl) $$ Hg
  iapply (step_load m c 1 0 fullShare) $$ Hg
  iintro Hg
  iapply (step_done m c 2 1 1) $$ [Hy1 HO]
  · isplitl [Hy1]; · iexact Hy1
    iexact HO
  iintro ⟨Hw1, Hst, Hz, HO⟩
  iapply (step_form m c 1 0 1 _ rfl) $$ [Hb Hst]
  · isplitl [Hb]; · iexact Hb
    iexact Hst
  iintro ⟨Hb, Hst⟩
  rw [Runs, wp_ret]
  imodintro
  isplitl [Hw1]; · iexact Hw1
  isplitl [Hb]; · iexact Hb
  isplitl [Hst]; · iexact Hst
  isplitl [Hz]; · iexact Hz
  isplitl [Hg]; · iexact Hg
  isplitl [Hz2]; · iexact Hz2
  iexact HO

/-- The twelfth stretch: the last copy out starts, and the first three transfers are known to have left. -/
theorem run12 (K : Dev nD × Kind13 → ℕ) (c : Dev nD) :
    iprop(records m K ∗ levAts L lv ∗ ready m c 1 0 1 ∗ idle c (.dma (outS 1)) ∗ anyRows c 1 0 ∗ owing c (debt c []) ∗ ticket c (.inl 0)
        ∗ ticket c (.inl 1) ∗ ticket c (.inl 2) ∗ fresh c (kSnd 0) ∗ fresh c (kSnd 1) ∗ fresh c (kSnd 2))
      ⊢ Runs c (onBufs (k0_part12 (F := F)) c) (fun _ => iprop(flying m c 1 0 1 ∗ owing c (debt c []) ∗ hp c (srcAt 0) (lent 0) (agF m c) ∗ hp c (srcAt 1) (lent 1) (agF m c)
        ∗ hp c (srcAt 2) (lent 2) (agF m c) ∗ idle c (.dma (sndS 0)) ∗ idle c (.dma (sndS 1)) ∗ idle c (.dma (sndS 2)))) := by
  rw [k0_part12_eq_skeleton]
  unfold onBufs k0_part12_skel
  simp only [Prog.lift, Prog.bind_op, Prog.bind_ret, Prog.pure_eq_ret]
  iintro ⟨#Hrec, #Hlev, Hst, Hz, Hw, HO, Ht0, Ht1, Ht2, Hf0, Hf1, Hf2⟩
  iapply (step_out m c 1 0 1 _ _ (off_nxt c 0)) $$ [Hst Hw Hz]
  · isplitl [Hst]; · iexact Hst
    isplitl [Hw]; · iexact Hw
    iexact Hz
  iintro Hy
  iapply (step_back m K c 0) $$ [Ht0 Hf0 HO]
  · isplitr; · iexact Hrec
    isplitr; · iexact Hlev
    isplitl [Ht0]; · iexact Ht0
    isplitl [Hf0]; · iexact Hf0
    iexact HO
  iintro ⟨Hs0, Hz0, HO⟩
  iapply (step_back m K c 1) $$ [Ht1 Hf1 HO]
  · isplitr; · iexact Hrec
    isplitr; · iexact Hlev
    isplitl [Ht1]; · iexact Ht1
    isplitl [Hf1]; · iexact Hf1
    iexact HO
  iintro ⟨Hs1, Hz1, HO⟩
  iapply (step_back m K c 2) $$ [Ht2 Hf2 HO]
  · isplitr; · iexact Hrec
    isplitr; · iexact Hlev
    isplitl [Ht2]; · iexact Ht2
    isplitl [Hf2]; · iexact Hf2
    iexact HO
  iintro ⟨Hs2, Hz2, HO⟩
  rw [Runs, wp_ret]
  imodintro
  isplitl [Hy]; · iexact Hy
  isplitl [HO]; · iexact HO
  isplitl [Hs0]; · iexact Hs0
  isplitl [Hs1]; · iexact Hs1
  isplitl [Hs2]; · iexact Hs2
  isplitl [Hz0]; · iexact Hz0
  isplitl [Hz1]; · iexact Hz1
  iexact Hz2

end Cert.Gather
-- ==== Proof.Opening.lean ====
/-
# The run's opening

The first stretch of the kernel: device `c` rounds its block into slot 3 of the gather buffer, tells both neighbours that
the places they write here are free, and waits until both have told it the same.
-/
module

public import proofs.«01_k».proof.Proof.Pieces
public import proofs.«01_k».proof.Proof.Body

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

/-- Once the own block is stored, the gather buffer is the own halves, filled, and the six places that are written from
elsewhere. -/
theorem stored_pieces (c : Dev nD) (f : (cc0_scratch0 : Ref sig .tc).ty.Contents (Elt F)) :
    ((c : Thread nD τ).loc cc0_scratch0 ↦{fullShare}
        ((Memref.whole cc0_scratch0).access (Rect.unit (s := S4x1536x768) ![3, 0, 0] S1x1536x768.size inb_S4x1536x768_S1x1536x768_3_0_0) :
          View sig .tc _ _ _).write (Elt F) f (k0_pay1 (aIn m c)) Finset.univ : sProp 𝕄)
      ⊢ iprop(hp c (3, 0) fullShare (agF m c) ∗ hp c (3, 1) fullShare (agF m c)
        ∗ (place c 0 ∗ place c 2 ∗ place c 4) ∗ (place c 1 ∗ place c 3 ∗ place c 5)) := by
  have own (h : Fin 2) : hp c (3, h) fullShare (((Memref.whole cc0_scratch0).access
      (Rect.unit (s := S4x1536x768) ![3, 0, 0] S1x1536x768.size inb_S4x1536x768_S1x1536x768_3_0_0) : View sig .tc _ _ _).write (Elt F) f (k0_pay1 (aIn m c)) Finset.univ)
      = hp (F := F) c (3, h) fullShare (agF m c) := by
    unfold hp
    exact pointsTo_congr fun i hi => store_own m c f i ((mem_half 3 h i).mp hi).1
  have free (j : Fin 6) (sh) (hj : dstAt j = sh) (g) : hp c sh fullShare g ⊢ place (F := F) c j := by
    subst hj
    unfold place
    iintro H
    iexists g
    iexact H
  rw [gather_pieces, own 0, own 1]
  iintro ⟨H00, H01, H10, H11, H20, H21, H30, H31⟩
  isplitl [H30]; · iexact H30
  isplitl [H31]; · iexact H31
  isplitl [H00 H20 H01]
  · isplitl [H00]; · iapply (free 0 (0, 0) rfl _) $$ H00
    isplitl [H20]; · iapply (free 2 (2, 0) rfl _) $$ H20
    iapply (free 4 (0, 1) rfl _) $$ H01
  · isplitl [H11]; · iapply (free 1 (1, 1) rfl _) $$ H11
    isplitl [H21]; · iapply (free 3 (2, 1) rfl _) $$ H21
    iapply (free 5 (1, 0) rfl _) $$ H10

/-- What the device before gets from this one at its barrier, and what the one after gets. -/
theorem pay_prv (c : Dev nD) : iprop(place (F := F) c 0 ∗ place c 2 ∗ place c 4) ⊢ (Rd m).payload ((prv c : Thread nD τ), .reg barS) 0 true := by
  have h : (Rd m).payload ((prv c : Thread nD τ), .reg barS) 0 true = iprop(place (nxt (prv c)) 0 ∗ place (nxt (prv c)) 2 ∗ place (nxt (prv c)) 4) :=
    payload_cell m (prv c) kBar 0 true
  rw [h, nxt_prv]
theorem pay_nxt (c : Dev nD) : iprop(place (F := F) c 1 ∗ place c 3 ∗ place c 5) ⊢ (Rd m).payload ((nxt c : Thread nD τ), .reg barS) 0 false := by
  have h : (Rd m).payload ((nxt c : Thread nD τ), .reg barS) 0 false = iprop(place (prv (nxt c)) 1 ∗ place (prv (nxt c)) 3 ∗ place (prv (nxt c)) 5) :=
    payload_cell m (nxt c) kBar 0 false
  rw [h, prv_nxt]

/-- The first stretch: the own block is stored; the places on this device go to the neighbours that write them, and their
places for this device's transfers come. -/
theorem run1 (K : Dev nD × Kind13 → ℕ) (c : Dev nD) :
    iprop(records m K ∗ levAts L lv ∗ ((c : Thread nD τ).loc cc0_stg0_0 ↦{fullShare} aIn m c) ∗ (∃ f, (c : Thread nD τ).loc cc0_scratch0 ↦{fullShare} f)
        ∗ owing c (O₀ c) ∗ dutyTok ER (cell (prv c, kBar)) 0 true ∗ dutyTok ER (cell (nxt c, kBar)) 0 false
        ∗ cred (tallyAt (cell (c, kBar)) () 2) ∗ fresh c kBar)
      ⊢ Runs c (onBufs (k0_part1 (F := F))) (fun x => iprop(⌜x.1 = c⌝ ∗ ((c : Thread nD τ).loc cc0_stg0_0 ↦{fullShare} aIn m c)
        ∗ hp c (3, 0) fullShare (agF m c) ∗ hp c (3, 1) fullShare (agF m c) ∗ (place (nxt c) 0 ∗ place (nxt c) 2 ∗ place (nxt c) 4)
        ∗ (place (prv c) 1 ∗ place (prv c) 3 ∗ place (prv c) 5) ∗ idle c (.reg barS) ∗ owing c (debt c order))) := by
  rw [k0_part1_eq_skeleton]
  unfold onBufs k0_part1_skel owing fresh idle
  simp only [Runs, semSignalWord, semWaitWord, Prog.lift, Prog.bind_op, Prog.bind_ret, Prog.pure_eq_ret, wp_deviceId]
  iintro ⟨#Hrec, #Hlev, Hin, ⟨%f, Hag⟩, ⟨%W, HO⟩, Htp, Htn, Hc, Hat⟩
  iapply (wp_load 𝒱₀ (c : Thread nD τ) none Set.univ (m := Memref.whole cc0_stg0_0) (Finset.subset_univ _)) $$ Hin
  iintro Hin
  rw [show (Memref.whole cc0_stg0_0).view.readAt (Elt F) (Rect.unit (s := S1536x768) ![0, 0] S1536x768.size inb_S1536x768_S1536x768_0_0).toLoadRect
      (aIn m c) = aIn m c from Memref.readAt_unit_zero (Elt F) cc0_stg0_0 (by decide) _ (aIn m c)]
  iapply (wp_load 𝒱₀ (c : Thread nD τ) none Set.univ (m := Memref.whole cc0_scratch0) (Finset.subset_univ _)) $$ Hag
  iintro Hag
  iapply (wp_store 𝒱₀ (c : Thread nD τ) none Set.univ (m := Memref.whole cc0_scratch0)
    (r := Rect.unit (s := S4x1536x768) ![3, 0, 0] S1x1536x768.size inb_S4x1536x768_S1x1536x768_3_0_0) (Mk := Finset.univ) (Finset.subset_univ _)) $$ Hag
  iintro Hag
  ihave Hp := (stored_pieces m c f) $$ Hag
  icases Hp with ⟨Hs0, Hs1, Hev, Hod⟩
  rw [dev1_eq, dev2_eq]
  iapply (Rounds.wp_signal 𝒱₀ ER (Rd m) (c : Thread nD τ) none (dst := (prv c : Thread nD τ)) (κ := K (prv c, kBar)) (d := true)
      ((duties_cell m (prv c) kBar).symm ▸ Finset.mem_univ _) ((amount_cell m (prv c) kBar 0 true).trans (by decide)) () (O₁ c) rfl) $$ [HO Htp Hev]
  · isplitr; · iapply (records_inv m K (prv c, kBar)); iexact Hrec
    isplitl [HO]; · iexact HO
    isplitl [Htp]; · iexact Htp
    isplitl [Hev]; · iapply (pay_prv m c) $$ Hev
    iapply (records_reached m K (prv c, kBar)); iexact Hrec
  iintro HO
  iapply (Rounds.wp_signal 𝒱₀ ER (Rd m) (c : Thread nD τ) none (dst := (nxt c : Thread nD τ)) (κ := K (nxt c, kBar)) (d := false)
      ((duties_cell m (nxt c) kBar).symm ▸ Finset.mem_univ _) ((amount_cell m (nxt c) kBar 0 false).trans (by decide)) () (debt c order) rfl) $$ [HO Htn Hod]
  · isplitr; · iapply (records_inv m K (nxt c, kBar)); iexact Hrec
    isplitl [HO]; · iexact HO
    isplitl [Htn]; · iexact Htn
    isplitl [Hod]; · iapply (pay_nxt m c) $$ Hod
    iapply (records_reached m K (nxt c, kBar)); iexact Hrec
  iintro HO
  ihave #Hinv := (records_inv m K (c, kBar)) $$ Hrec
  ihave Hmw := (mayWait_debt c (.reg barS) order (by decide)) $$ Hlev
  iapply (Rounds.wp_wait_rest_token 𝒱₀ ER (Rd m) (c : Thread nD τ) none (κ := K (c, kBar)) (wpE_semWait_eq 𝒱₀ (c : Thread nD τ) none Set.univ)
      (Set.mem_univ _) () (O := debt c order) (W := W) (R := 0) (m := 0) (T := ∅)
      ((show 0 + _ = 2 from by decide).trans (expect_bar m c).symm)) $$ [Hc HO Hat Hmw]
  · isplitr; · iexact Hinv
    isplitl [Hc]; · iexact Hc
    isplitl [HO]; · iexact HO
    isplitl [Hmw]; · iexact Hmw
    iexact Hat
  iintro ⟨HO, Hat, -, Hpay⟩
  imod (cell_close ER (Rd m) (Set.mem_univ (K (c, kBar))) (fun h => h) (R := 0 + 1) (duties_later m _)) $$ [Hat] with Hz
  · isplitr; · iexact Hinv
    iexact Hat
  ihave Hpay2 := (show bigSep ((Rd m).duties ((c : Thread nD τ), .reg barS) 0 \ ∅) (fun d => (Rd m).payload ((c : Thread nD τ), .reg barS) 0 d)
    ⊢ iprop((place (nxt c) 0 ∗ place (nxt c) 2 ∗ place (nxt c) 4) ∗ (place (prv c) 1 ∗ place (prv c) 3 ∗ place (prv c) 5)) from
    Entails.of_eq (rest_bar m c)) $$ Hpay
  icases Hpay2 with ⟨Hn, Hp⟩
  rw [wp_ret]
  imodintro
  isplitr; · ipureintro; exact rfl
  isplitl [Hin]; · iexact Hin
  isplitl [Hs0]; · iexact Hs0
  isplitl [Hs1]; · iexact Hs1
  isplitl [Hn]; · iexact Hn
  isplitl [Hp]; · iexact Hp
  isplitl [Hz]; · iexact Hz
  iexists _; iexact HO

end Cert.Gather
-- ==== Proof.Whole.lean ====
/-
# The whole run on one device

The stretches, one after the other: from what a device holds when the kernel starts to what it holds when it ends. At the
end every row of its result holds the product, every semaphore is idle, and the buffers are whole again.
-/
module

public import proofs.«01_k».proof.Proof.Opening

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

/-- The pieces and shares of the gather buffer that are there at the end make it whole again. -/
theorem gather_back (c : Dev nD) :
    iprop(hp c (srcAt 0) (lent 0) (agF m c) ∗ hp c (srcAt 5) (lent 5) (agF m c) ∗ hp c (3, 0) fullShare.right.right (agF m c)
        ∗ hp c (srcAt 1) (lent 1) (agF m c) ∗ hp c (srcAt 4) (lent 4) (agF m c) ∗ hp c (3, 1) fullShare.right.right (agF m c)
        ∗ hp c (srcAt 2) (lent 2) (agF m c) ∗ hp c (0, 0) fullShare.right (agF m c) ∗ hp c (srcAt 3) (lent 3) (agF m c)
        ∗ hp c (1, 1) fullShare.right (agF m c) ∗ hp c (2, 0) fullShare (agF m c) ∗ hp c (2, 1) fullShare (agF m c)
        ∗ hp c (0, 1) fullShare (agF m c) ∗ hp c (1, 0) fullShare (agF m c))
      ⊢ ((c : Thread nD τ).loc cc0_scratch0 ↦{fullShare} agF m c : sProp 𝕄) := by
  have two (sh) (q : PosShare TreeShare) : iprop(hp c sh q.left (agF m c) ∗ hp c sh q.right (agF m c)) ⊢ hp c sh q (agF m c) := (hp_parts c sh q (agF m c)).2
  rw [gather_pieces]
  iintro ⟨Ha0, Ha5, Har, Hb1, Hb4, Hbr, Hc2, Hcr, Hd3, Hdr, He, Hf, Hg, Hh⟩
  ihave Ha1 := (two (3, 0) fullShare.right) $$ [Ha5 Har]
  · isplitl [Ha5]; · iexact Ha5
    iexact Har
  ihave Ha := (two (3, 0) fullShare) $$ [Ha0 Ha1]
  · isplitl [Ha0]; · iexact Ha0
    iexact Ha1
  ihave Hb2 := (two (3, 1) fullShare.right) $$ [Hb4 Hbr]
  · isplitl [Hb4]; · iexact Hb4
    iexact Hbr
  ihave Hb := (two (3, 1) fullShare) $$ [Hb1 Hb2]
  · isplitl [Hb1]; · iexact Hb1
    iexact Hb2
  ihave Hc := (two (0, 0) fullShare) $$ [Hc2 Hcr]
  · isplitl [Hc2]; · iexact Hc2
    iexact Hcr
  ihave Hd := (two (1, 1) fullShare) $$ [Hd3 Hdr]
  · isplitl [Hd3]; · iexact Hd3
    iexact Hdr
  isplitl [Hc]; · iexact Hc
  isplitl [Hg]; · iexact Hg
  isplitl [Hh]; · iexact Hh
  isplitl [Hd]; · iexact Hd
  isplitl [He]; · iexact He
  isplitl [Hf]; · iexact Hf
  isplitl [Ha]; · iexact Ha
  iexact Hb

/-- The chunks of rows, done, are the result. -/
theorem rows_back (c : Dev nD) :
    iprop(doneRows m c 0 0 ∗ doneRows m c 0 1 ∗ doneRows m c 1 0 ∗ doneRows m c 1 1 ∗ doneRows m c 2 0 ∗ doneRows m c 2 1 ∗ doneRows m c 3 0
        ∗ doneRows m c 3 1)
      ⊢ ((c : Thread nD τ).loc main_v1 ↦{fullShare} outF m c : sProp 𝕄) := by
  unfold doneRows
  rw [rows_pieces]

/-- The result's buffer is the chunks of rows, whatever they hold. -/
theorem rows_open (c : Dev nD) (f : (main_v1 : Ref sig .tc).ty.Contents (Elt F)) :
    ((c : Thread nD τ).loc main_v1 ↦{fullShare} f : sProp 𝕄)
      ⊢ iprop(anyRows c 0 0 ∗ anyRows c 0 1 ∗ anyRows c 1 0 ∗ anyRows c 1 1 ∗ anyRows c 2 0 ∗ anyRows c 2 1 ∗ anyRows c 3 0 ∗ anyRows c 3 1) := by
  unfold anyRows
  rw [rows_pieces]
  iintro ⟨H00, H01, H10, H11, H20, H21, H30, H31⟩
  isplitl [H00]; · iexists f; iexact H00
  isplitl [H01]; · iexists f; iexact H01
  isplitl [H10]; · iexists f; iexact H10
  isplitl [H11]; · iexists f; iexact H11
  isplitl [H20]; · iexists f; iexact H20
  isplitl [H21]; · iexists f; iexact H21
  isplitl [H30]; · iexists f; iexact H30
  iexists f; iexact H31

/-- The product buffer is its stages, whatever they hold, -/
theorem stage_open (c : Dev nD) (f : (cc0_scratch2 : Ref sig .tc).ty.Contents (Elt F)) :
    ((c : Thread nD τ).loc cc0_scratch2 ↦{fullShare} f : sProp 𝕄) ⊢ iprop(anyStage c 0 ∗ anyStage c 1) := by
  unfold anyStage
  rw [stage_pieces]
  iintro ⟨H0, H1⟩
  isplitl [H0]; · iexists f; iexact H0
  iexists f; iexact H1
/-- and back. -/
theorem stage_back (c : Dev nD) : iprop(anyStage c 0 ∗ anyStage c 1) ⊢ (∃ f, (c : Thread nD τ).loc cc0_scratch2 ↦{fullShare} f : sProp 𝕄) := by
  unfold anyStage
  iintro ⟨⟨%f0, H0⟩, ⟨%f1, H1⟩⟩
  have h0 : ((c : Thread nD τ).loc cc0_scratch2 ↦[(stage 0).view.set]{fullShare} f0 : sProp 𝕄)
      = (c : Thread nD τ).loc cc0_scratch2 ↦[(stage 0).view.set]{fullShare} (fun i : S2x768x1536.Idx => if (i 0).val = 0 then f0 i else f1 i) :=
    pointsTo_congr fun i hi => (if_pos ((mem_stage 0 i).mp hi)).symm
  have h1 : ((c : Thread nD τ).loc cc0_scratch2 ↦[(stage 1).view.set]{fullShare} f1 : sProp 𝕄)
      = (c : Thread nD τ).loc cc0_scratch2 ↦[(stage 1).view.set]{fullShare} (fun i : S2x768x1536.Idx => if (i 0).val = 0 then f0 i else f1 i) :=
    pointsTo_congr fun i hi => (if_neg (by rw [(mem_stage 1 i).mp hi]; decide)).symm
  iexists (fun i : S2x768x1536.Idx => if (i 0).val = 0 then f0 i else f1 i)
  iapply (Entails.of_eq (stage_pieces c _).symm)
  isplitl [H0]
  · iapply (Entails.of_eq h0) $$ H0
  · iapply (Entails.of_eq h1) $$ H1

/-- The kernel up to its last wait. -/
theorem run13 (K : Dev nD × Kind13 → ℕ) (c : Dev nD) :
    iprop(records m K ∗ levAts L lv ∗ ((c : Thread nD τ).loc cc0_stg0_0 ↦{fullShare} aIn m c)
        ∗ ((c : Thread nD τ).loc cc0_stg1_0 ↦{fullShare} bIn m c) ∗ (∃ f, (c : Thread nD τ).loc cc0_scratch0 ↦{fullShare} f)
        ∗ (∃ f, (c : Thread nD τ).loc cc0_scratch1 ↦{fullShare} f) ∗ anyStage c 0 ∗ anyStage c 1 ∗ idle c (.dma (outS 0)) ∗ idle c (.dma (outS 1))
        ∗ owing c (O₀ c) ∗ dutyTok ER (cell (prv c, kBar)) 0 true ∗ dutyTok ER (cell (nxt c, kBar)) 0 false ∗ cred (tallyAt (cell (c, kBar)) () 2)
        ∗ fresh c kBar ∗ anyRows c 0 0 ∗ anyRows c 0 1 ∗ anyRows c 1 0 ∗ anyRows c 1 1 ∗ anyRows c 2 0 ∗ anyRows c 2 1 ∗ anyRows c 3 0
        ∗ anyRows c 3 1 ∗ fares c 0 ∗ fares c 1 ∗ fares c 2 ∗ fares c 3 ∗ fares c 4 ∗ fares c 5 ∗ ticket c (.inr 0) ∗ ticket c (.inr 1)
        ∗ ticket c (.inr 2) ∗ ticket c (.inr 3) ∗ ticket c (.inr 4) ∗ ticket c (.inr 5) ∗ fresh c (kRcv 0) ∗ fresh c (kRcv 1) ∗ fresh c (kRcv 2)
        ∗ fresh c (kRcv 3) ∗ fresh c (kRcv 4) ∗ fresh c (kRcv 5) ∗ fresh c (kSnd 0) ∗ fresh c (kSnd 1) ∗ fresh c (kSnd 2) ∗ fresh c (kSnd 3)
        ∗ fresh c (kSnd 4) ∗ fresh c (kSnd 5))
      ⊢ Runs c (onBufs (k0_part13 (F := F))) (fun d => iprop(⌜d = c⌝ ∗ ((c : Thread nD τ).loc cc0_stg0_0 ↦{fullShare} aIn m c) ∗ ((c : Thread nD τ).loc cc0_stg1_0 ↦{fullShare} bIn m c)
        ∗ ((c : Thread nD τ).loc cc0_scratch0 ↦{fullShare} agF m c) ∗ bAt m c ∗ flying m c 1 0 1 ∗ anyStage c 0 ∗ idle c (.dma (outS 0))
        ∗ idle c (.reg barS) ∗ idle c (.dma (sndS 0)) ∗ idle c (.dma (sndS 1)) ∗ idle c (.dma (sndS 2)) ∗ idle c (.dma (sndS 3))
        ∗ idle c (.dma (sndS 4)) ∗ idle c (.dma (sndS 5)) ∗ idle c (.dma (rcvS 0)) ∗ idle c (.dma (rcvS 1)) ∗ idle c (.dma (rcvS 2))
        ∗ idle c (.dma (rcvS 3)) ∗ idle c (.dma (rcvS 4)) ∗ idle c (.dma (rcvS 5)) ∗ doneRows m c 0 0 ∗ doneRows m c 0 1 ∗ doneRows m c 1 1
        ∗ doneRows m c 2 0 ∗ doneRows m c 2 1 ∗ doneRows m c 3 0 ∗ doneRows m c 3 1 ∗ owing c (debt c []))) := by
  rw [k0_part13_eq_skeleton]
  unfold onBufs k0_part13_skel
  iintro ⟨#Hrec, #Hlev, Hin0, Hin1, Hag, Hbb, Hst0, Hst1, Hz0, Hz1, HO, Htp, Htn, Hcb, Hfb, Hw00, Hw01, Hw10, Hw11, Hw20, Hw21, Hw30, Hw31, Hfa0, Hfa1, Hfa2, Hfa3, Hfa4, Hfa5, Htr0, Htr1, Htr2, Htr3, Htr4, Htr5, Hfr0, Hfr1, Hfr2, Hfr3, Hfr4, Hfr5, Hfs0, Hfs1, Hfs2, Hfs3, Hfs4, Hfs5⟩
  iapply (runs_then (run1 m K c)) $$ [Hin0 Hag HO Htp Htn Hcb Hfb]
  · isplitr; · iexact Hrec
    isplitr; · iexact Hlev
    isplitl [Hin0]; · iexact Hin0
    isplitl [Hag]; · iexact Hag
    isplitl [HO]; · iexact HO
    isplitl [Htp]; · iexact Htp
    isplitl [Htn]; · iexact Htn
    isplitl [Hcb]; · iexact Hcb
    iexact Hfb
  iintro %x ⟨%hd, Hin0, Hs0, Hs1, ⟨Hp0, Hp2, Hp4⟩, ⟨Hp1, Hp3, Hp5⟩, Hzb, HO⟩
  obtain ⟨d, v2, v5, v7⟩ := x
  obtain rfl : d = c := hd
  iapply (runs_then (run2 m K d _ _)) $$ [Hs0 Hs1 Hp0 Hp1 Hfa0 Hfa1 HO Hin1 Hbb Hst0]
  · isplitr; · iexact Hrec
    isplitl [Hs0]; · iexact Hs0
    isplitl [Hs1]; · iexact Hs1
    isplitl [Hp0]; · iexact Hp0
    isplitl [Hp1]; · iexact Hp1
    isplitl [Hfa0]; · iexact Hfa0
    isplitl [Hfa1]; · iexact Hfa1
    isplitl [HO]; · iexact HO
    isplitl [Hin1]; · iexact Hin1
    isplitl [Hbb]; · iexact Hbb
    iexact Hst0
  iintro %v54 ⟨Hr0, Hr1, Hts0, Hts1, HO, Hin1, Hb, Hst0⟩
  iapply (runs_then (run3 m d _ _ _)) $$ [Hst0 Hz0 Hz1 Hw30 Hw31 Hr1 Hb Hst1]
  · isplitl [Hst0]; · iexact Hst0
    isplitl [Hz0]; · iexact Hz0
    isplitl [Hz1]; · iexact Hz1
    isplitl [Hw30]; · iexact Hw30
    isplitl [Hw31]; · iexact Hw31
    isplitl [Hr1]; · iexact Hr1
    isplitl [Hb]; · iexact Hb
    iexact Hst1
  iintro %_ ⟨Hy0, Hy1, Hr1, Hb⟩
  iapply (runs_then (run4 m K d _ _)) $$ [Htr0 Hfr0 HO Hr1 Hp2 Hp4 Hfa2 Hfa4]
  · isplitr; · iexact Hrec
    isplitr; · iexact Hlev
    isplitl [Htr0]; · iexact Htr0
    isplitl [Hfr0]; · iexact Hfr0
    isplitl [HO]; · iexact HO
    isplitl [Hr1]; · iexact Hr1
    isplitl [Hp2]; · iexact Hp2
    isplitl [Hp4]; · iexact Hp4
    isplitl [Hfa2]; · iexact Hfa2
    iexact Hfa4
  iintro %_ ⟨Hg00, Hr1, Hzr0, Hts2, Hts4, HO⟩
  iapply (runs_then (run5 m K d _ _)) $$ [Htr1 Hfr1 HO Hr0 Hp3 Hp5 Hfa3 Hfa5 Hg00]
  · isplitr; · iexact Hrec
    isplitr; · iexact Hlev
    isplitl [Htr1]; · iexact Htr1
    isplitl [Hfr1]; · iexact Hfr1
    isplitl [HO]; · iexact HO
    isplitl [Hr0]; · iexact Hr0
    isplitl [Hp3]; · iexact Hp3
    isplitl [Hp5]; · iexact Hp5
    isplitl [Hfa3]; · iexact Hfa3
    isplitl [Hfa5]; · iexact Hfa5
    iexact Hg00
  iintro %x ⟨%hx, Hg11, Hr0, Hzr1, Hts3, Hts5, HO, Hg00⟩
  obtain ⟨v, w⟩ := x
  obtain rfl : v = k0_pay5 (ld m d 0 0) := hx
  iapply (runs_then (run6 m d _ _)) $$ [Hy0 HO Hb Hw00 Hg11 Hy1]
  · isplitl [Hy0]; · iexact Hy0
    isplitl [HO]; · iexact HO
    isplitl [Hb]; · iexact Hb
    isplitl [Hw00]; · iexact Hw00
    isplitl [Hg11]; · iexact Hg11
    iexact Hy1
  iintro %x ⟨%hx, Hd30, Hd31, Hy0, Hst1, Hz1, HO, Hb, Hg11⟩
  obtain ⟨v, w⟩ := x
  obtain rfl : v = k0_pay7 (ld m d 1 1) := hx
  iapply (runs_then (run7 m K d _ _ _)) $$ [Hb Hst1 Hw11 Hz1 Htr2 Hfr2 HO]
  · isplitr; · iexact Hrec
    isplitr; · iexact Hlev
    isplitl [Hb]; · iexact Hb
    isplitl [Hst1]; · iexact Hst1
    isplitl [Hw11]; · iexact Hw11
    isplitl [Hz1]; · iexact Hz1
    isplitl [Htr2]; · iexact Htr2
    isplitl [Hfr2]; · iexact Hfr2
    iexact HO
  iintro %x ⟨%hx, Hb, Hy1, Hg20, Hzr2, HO⟩
  obtain ⟨v, w⟩ := x
  obtain rfl : v = k0_pay9 (ld m d 2 0) := hx
  iapply (runs_then (run8 m K d _ _)) $$ [Hy0 Hb Hw20 Htr3 Hfr3 HO]
  · isplitr; · iexact Hrec
    isplitr; · iexact Hlev
    isplitl [Hy0]; · iexact Hy0
    isplitl [Hb]; · iexact Hb
    isplitl [Hw20]; · iexact Hw20
    isplitl [Htr3]; · iexact Htr3
    isplitl [Hfr3]; · iexact Hfr3
    iexact HO
  iintro %x ⟨%hx, Hd00, Hb, Hy0, Hg21, Hzr3, HO⟩
  obtain rfl : x = ld m d 2 1 := hx
  iapply (runs_then (run9 m d _ _)) $$ [Hy1 Hb Hw21 HO]
  · isplitl [Hy1]; · iexact Hy1
    isplitl [Hb]; · iexact Hb
    isplitl [Hw21]; · iexact Hw21
    iexact HO
  iintro %_ ⟨Hd11, Hb, Hy1, HO⟩
  iapply (runs_then (run10 m K d _ _)) $$ [Htr4 Hfr4 HO Hy0 Hb Hw01]
  · isplitr; · iexact Hrec
    isplitr; · iexact Hlev
    isplitl [Htr4]; · iexact Htr4
    isplitl [Hfr4]; · iexact Hfr4
    isplitl [HO]; · iexact HO
    isplitl [Hy0]; · iexact Hy0
    isplitl [Hb]; · iexact Hb
    iexact Hw01
  iintro %x ⟨Hd20, Hb, Hy0, Hg01, Hzr4, HO⟩
  obtain ⟨v, w⟩ := x
  iapply (runs_then (run11 m K d _ _ _)) $$ [Htr5 Hfr5 HO Hy1 Hb]
  · isplitr; · iexact Hrec
    isplitr; · iexact Hlev
    isplitl [Htr5]; · iexact Htr5
    isplitl [Hfr5]; · iexact Hfr5
    isplitl [HO]; · iexact HO
    isplitl [Hy1]; · iexact Hy1
    iexact Hb
  iintro %_ ⟨Hd21, Hb, Hst1, Hz1, Hg10, Hzr5, HO⟩
  iapply (runs_then (run12 m K d)) $$ [Hst1 Hz1 Hw10 HO Hts0 Hts1 Hts2 Hfs0 Hfs1 Hfs2]
  · isplitr; · iexact Hrec
    isplitr; · iexact Hlev
    isplitl [Hst1]; · iexact Hst1
    isplitl [Hz1]; · iexact Hz1
    isplitl [Hw10]; · iexact Hw10
    isplitl [HO]; · iexact HO
    isplitl [Hts0]; · iexact Hts0
    isplitl [Hts1]; · iexact Hts1
    isplitl [Hts2]; · iexact Hts2
    isplitl [Hfs0]; · iexact Hfs0
    isplitl [Hfs1]; · iexact Hfs1
    iexact Hfs2
  iintro %_ ⟨Hy1, HO, Hl0, Hl1, Hl2, Hzs0, Hzs1, Hzs2⟩
  simp only [Prog.lift, Prog.bind_op, Prog.bind_ret, Prog.pure_eq_ret]
  iapply (step_back m K d 3) $$ [Hts3 Hfs3 HO]
  · isplitr; · iexact Hrec
    isplitr; · iexact Hlev
    isplitl [Hts3]; · iexact Hts3
    isplitl [Hfs3]; · iexact Hfs3
    iexact HO
  iintro ⟨Hl3, Hzs3, HO⟩
  iapply (step_back m K d 4) $$ [Hts4 Hfs4 HO]
  · isplitr; · iexact Hrec
    isplitr; · iexact Hlev
    isplitl [Hts4]; · iexact Hts4
    isplitl [Hfs4]; · iexact Hfs4
    iexact HO
  iintro ⟨Hl4, Hzs4, HO⟩
  iapply (step_back m K d 5) $$ [Hts5 Hfs5 HO]
  · isplitr; · iexact Hrec
    isplitr; · iexact Hlev
    isplitl [Hts5]; · iexact Hts5
    isplitl [Hfs5]; · iexact Hfs5
    iexact HO
  iintro ⟨Hl5, Hzs5, HO⟩
  iapply (step_done m d 0 1 0) $$ [Hy0 HO]
  · isplitl [Hy0]; · iexact Hy0
    iexact HO
  iintro ⟨Hd01, Hst0, Hz0, HO⟩
  ihave Hag := (gather_back m d) $$ [Hl0 Hl5 Hr0 Hl1 Hl4 Hr1 Hl2 Hg00 Hl3 Hg11 Hg20 Hg21 Hg01 Hg10]
  · isplitl [Hl0]; · iexact Hl0
    isplitl [Hl5]; · iexact Hl5
    isplitl [Hr0]; · iexact Hr0
    isplitl [Hl1]; · iexact Hl1
    isplitl [Hl4]; · iexact Hl4
    isplitl [Hr1]; · iexact Hr1
    isplitl [Hl2]; · iexact Hl2
    isplitl [Hg00]; · iexact Hg00
    isplitl [Hl3]; · iexact Hl3
    isplitl [Hg11]; · iexact Hg11
    isplitl [Hg20]; · iexact Hg20
    isplitl [Hg21]; · iexact Hg21
    isplitl [Hg01]; · iexact Hg01
    iexact Hg10
  rw [Runs, wp_ret]
  imodintro
  isplitr; · ipureintro; exact rfl
  isplitl [Hin0]; · iexact Hin0
  isplitl [Hin1]; · iexact Hin1
  isplitl [Hag]; · iexact Hag
  isplitl [Hb]; · iexact Hb
  isplitl [Hy1]; · iexact Hy1
  isplitl [Hst0]; · iexact Hst0
  isplitl [Hz0]; · iexact Hz0
  isplitl [Hzb]; · iexact Hzb
  isplitl [Hzs0]; · iexact Hzs0
  isplitl [Hzs1]; · iexact Hzs1
  isplitl [Hzs2]; · iexact Hzs2
  isplitl [Hzs3]; · iexact Hzs3
  isplitl [Hzs4]; · iexact Hzs4
  isplitl [Hzs5]; · iexact Hzs5
  isplitl [Hzr0]; · iexact Hzr0
  isplitl [Hzr1]; · iexact Hzr1
  isplitl [Hzr2]; · iexact Hzr2
  isplitl [Hzr3]; · iexact Hzr3
  isplitl [Hzr4]; · iexact Hzr4
  isplitl [Hzr5]; · iexact Hzr5
  isplitl [Hd00]; · iexact Hd00
  isplitl [Hd01]; · iexact Hd01
  isplitl [Hd11]; · iexact Hd11
  isplitl [Hd20]; · iexact Hd20
  isplitl [Hd21]; · iexact Hd21
  isplitl [Hd30]; · iexact Hd30
  isplitl [Hd31]; · iexact Hd31
  iexact HO

/-- The kernel on device `c`, from its start to its end. -/
theorem run_body (K : Dev nD × Kind13 → ℕ) (c : Dev nD) :
    iprop(records m K ∗ levAts L lv ∗ ((c : Thread nD τ).loc cc0_stg0_0 ↦{fullShare} aIn m c)
        ∗ ((c : Thread nD τ).loc cc0_stg1_0 ↦{fullShare} bIn m c) ∗ (∃ f, (c : Thread nD τ).loc cc0_scratch0 ↦{fullShare} f)
        ∗ (∃ f, (c : Thread nD τ).loc cc0_scratch1 ↦{fullShare} f) ∗ anyStage c 0 ∗ anyStage c 1 ∗ idle c (.dma (outS 0)) ∗ idle c (.dma (outS 1))
        ∗ owing c (O₀ c) ∗ dutyTok ER (cell (prv c, kBar)) 0 true ∗ dutyTok ER (cell (nxt c, kBar)) 0 false ∗ cred (tallyAt (cell (c, kBar)) () 2)
        ∗ fresh c kBar ∗ anyRows c 0 0 ∗ anyRows c 0 1 ∗ anyRows c 1 0 ∗ anyRows c 1 1 ∗ anyRows c 2 0 ∗ anyRows c 2 1 ∗ anyRows c 3 0
        ∗ anyRows c 3 1 ∗ fares c 0 ∗ fares c 1 ∗ fares c 2 ∗ fares c 3 ∗ fares c 4 ∗ fares c 5 ∗ ticket c (.inr 0) ∗ ticket c (.inr 1)
        ∗ ticket c (.inr 2) ∗ ticket c (.inr 3) ∗ ticket c (.inr 4) ∗ ticket c (.inr 5) ∗ fresh c (kRcv 0) ∗ fresh c (kRcv 1) ∗ fresh c (kRcv 2)
        ∗ fresh c (kRcv 3) ∗ fresh c (kRcv 4) ∗ fresh c (kRcv 5) ∗ fresh c (kSnd 0) ∗ fresh c (kSnd 1) ∗ fresh c (kSnd 2) ∗ fresh c (kSnd 3)
        ∗ fresh c (kSnd 4) ∗ fresh c (kSnd 5))
      ⊢ Runs c (onBufs (cc0_body (F := F))) (fun _ => iprop(((c : Thread nD τ).loc cc0_stg0_0 ↦{fullShare} aIn m c) ∗ ((c : Thread nD τ).loc cc0_stg1_0 ↦{fullShare} bIn m c)
        ∗ ((c : Thread nD τ).loc cc0_scratch0 ↦{fullShare} agF m c) ∗ bAt m c ∗ anyStage c 0 ∗ anyStage c 1
        ∗ ((c : Thread nD τ).loc main_v1 ↦{fullShare} outF m c) ∗ idle c (.reg barS) ∗ idle c (.dma (sndS 0)) ∗ idle c (.dma (sndS 1))
        ∗ idle c (.dma (sndS 2)) ∗ idle c (.dma (sndS 3)) ∗ idle c (.dma (sndS 4)) ∗ idle c (.dma (sndS 5)) ∗ idle c (.dma (rcvS 0))
        ∗ idle c (.dma (rcvS 1)) ∗ idle c (.dma (rcvS 2)) ∗ idle c (.dma (rcvS 3)) ∗ idle c (.dma (rcvS 4)) ∗ idle c (.dma (rcvS 5))
        ∗ idle c (.dma (outS 0)) ∗ idle c (.dma (outS 1)) ∗ owing c 0)) := by
  rw [cc0_body_eq_skeleton]
  unfold onBufs cc0_body_skel
  iintro H
  iapply (runs_then (run13 m K c)) $$ H
  iintro %d ⟨%hd, Hin0, Hin1, Hag, Hb, Hy1, Hst0, Hz0, Hzb, Hzs0, Hzs1, Hzs2, Hzs3, Hzs4, Hzs5, Hzr0, Hzr1, Hzr2, Hzr3, Hzr4, Hzr5, Hd00, Hd01, Hd11, Hd20, Hd21, Hd30, Hd31, HO⟩
  obtain rfl : d = c := hd
  simp only [Prog.lift, Prog.bind_op, Prog.bind_ret, Prog.pure_eq_ret]
  iapply (step_done m d 1 0 1) $$ [Hy1 HO]
  · isplitl [Hy1]; · iexact Hy1
    iexact HO
  iintro ⟨Hd10, Hst1, Hz1, HO⟩
  ihave Hout := (rows_back m d) $$ [Hd00 Hd01 Hd10 Hd11 Hd20 Hd21 Hd30 Hd31]
  · isplitl [Hd00]; · iexact Hd00
    isplitl [Hd01]; · iexact Hd01
    isplitl [Hd10]; · iexact Hd10
    isplitl [Hd11]; · iexact Hd11
    isplitl [Hd20]; · iexact Hd20
    isplitl [Hd21]; · iexact Hd21
    isplitl [Hd30]; · iexact Hd30
    iexact Hd31
  rw [Runs, wp_ret]
  imodintro
  isplitl [Hin0]; · iexact Hin0
  isplitl [Hin1]; · iexact Hin1
  isplitl [Hag]; · iexact Hag
  isplitl [Hb]; · iexact Hb
  isplitl [Hst0]; · iexact Hst0
  isplitl [Hst1]; · iexact Hst1
  isplitl [Hout]; · iexact Hout
  isplitl [Hzb]; · iexact Hzb
  isplitl [Hzs0]; · iexact Hzs0
  isplitl [Hzs1]; · iexact Hzs1
  isplitl [Hzs2]; · iexact Hzs2
  isplitl [Hzs3]; · iexact Hzs3
  isplitl [Hzs4]; · iexact Hzs4
  isplitl [Hzs5]; · iexact Hzs5
  isplitl [Hzr0]; · iexact Hzr0
  isplitl [Hzr1]; · iexact Hzr1
  isplitl [Hzr2]; · iexact Hzr2
  isplitl [Hzr3]; · iexact Hzr3
  isplitl [Hzr4]; · iexact Hzr4
  isplitl [Hzr5]; · iexact Hzr5
  isplitl [Hz0]; · iexact Hz0
  isplitl [Hz1]; · iexact Hz1
  iexact HO

end Cert.Gather
-- ==== Proof.Deal.lean ====
/-
# What the launch deals out

At the launch every semaphore is at zero and every record of the protocol is fresh. They are dealt so that each device
gets the rights to pay what it pays: at its two neighbours' barriers, at its own send semaphores, and at the receive
semaphores of the devices its transfers go to. What all devices owe a device's semaphore is the credit that device has
there.
-/
module

public import proofs.«01_k».proof.Proof.Whole
public import Idealize.ShloMosaic.Lib.Pipeline.Launch
public import Idealize.ShloMosaic.Lib.Pipeline.Kit

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

/-- A family over six, one by one. -/
theorem six (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

/-- A family over the kinds of semaphore: the barrier's, the send ones', the receive ones'. -/
theorem kinds (Φ : Kind13 → sProp 𝕄) : bigSep Finset.univ Φ
    = iprop(Φ kBar ∗ bigSep Finset.univ (fun k : Fin 6 ⊕ Fin 6 => Φ (.inr k))) := by
  rw [bigSep_univ_sum]
  exact congrArg (fun X => iprop(X ∗ _)) (bigSep_univ_eq_bigSepL [()] (by decide) (by decide) _)

/-- A family over the transfers' semaphores: the send ones', the receive ones'. -/
theorem sides (Φ : Fin 6 ⊕ Fin 6 → sProp 𝕄) : bigSep Finset.univ Φ
    = iprop(bigSep Finset.univ (fun j => Φ (.inl j)) ∗ bigSep Finset.univ (fun j => Φ (.inr j))) := bigSep_univ_sum Φ

/-! ## The semaphores at zero -/

/-- The semaphores that are the kernel's own: the twelve of the transfers and the two of the copies out. -/
abbrev osem : (Fin 6 ⊕ Fin 6) ⊕ Fin 2 → SemLoc sig
  | .inl k => semOf (.inr k)
  | .inr e => .dma (outS e)

theorem own_sems (c : Dev nD) :
    (Pipeline.ownSems0 (Ix := Unit) (Name := ℕ) (U := UU) (Lvl := ℕ) (Val := Elt F) (τ := τ) osem c : sProp 𝕄)
      = iprop(bigSep Finset.univ (fun k : Fin 6 ⊕ Fin 6 => idle c (semOf (.inr k))) ∗ idle c (.dma (outS 0)) ∗ idle c (.dma (outS 1))) := by
  unfold Pipeline.ownSems0
  rw [bigSep_univ_sum]
  exact congrArg (fun X => iprop(_ ∗ X)) (bigSep_univ_eq_bigSepL [0, 1] (by decide) (by decide) _)

theorem bar_sem (c : Dev nD) : (unscopedSems0 c : sProp 𝕄) = idle c (.reg barS) := by
  unfold unscopedSems0
  rw [bigSep_eq_bigSepL_of_eq [SemLoc.reg barS] (by decide) (by decide)]; rfl

/-! ## The rights to pay -/

/-- Every semaphore of the protocol, on every device. -/
def meets : Finset (GSem nD τ sig) := Finset.univ.map ⟨cell, cell_injective⟩

/-- A payment: at whose semaphore, which semaphore, and which payer. -/
def payment : Dev nD × (Bool ⊕ (Fin 6 ⊕ Fin 6)) → GSem nD τ sig × ℕ × Bool
  | (c, .inl d) => (cell (c, kBar), 0, d)
  | (c, .inr k) => (cell (c, .inr k), 0, false)

theorem payment_injective : Function.Injective payment := by
  rintro ⟨c, d | k⟩ ⟨c', d' | k'⟩ h
  · have h1 := cell_injective (congrArg Prod.fst h)
    have h2 : d = d' := congrArg (fun x => x.2.2) h
    cases h1; cases h2; rfl
  · have h1 := cell_injective (congrArg Prod.fst h)
    cases h1
  · have h1 := cell_injective (congrArg Prod.fst h)
    cases h1
  · have h1 := cell_injective (congrArg Prod.fst h)
    cases h1; rfl

def payments : Finset (GSem nD τ sig × ℕ × Bool) := Finset.univ.map ⟨payment, payment_injective⟩

/-- A transfer seen from where it starts and from where it lands. -/
def route : Dev nD × Fin 6 ≃ Dev nD × Fin 6 where
  toFun x := (toD x.1 x.2, x.2)
  invFun x := (fromD x.1 x.2, x.2)
  left_inv x := Prod.ext (fromD_toD x.1 x.2) rfl
  right_inv x := Prod.ext (toD_fromD x.1 x.2) rfl

/-- What a device pays with, and its place at its own semaphores. -/
def kept (c : Dev nD) : sProp 𝕄 :=
  iprop(bigSep Finset.univ (fun k => fresh c k)
    ∗ (dutyTok ER (cell (prv c, kBar)) 0 true ∗ dutyTok ER (cell (nxt c, kBar)) 0 false) ∗ bigSep Finset.univ (fun j => fares c j))

/-- All payments, by who pays them. -/
theorem payments_dealt : bigSep payments (fun x => (dutyTok ER x.1 x.2.1 x.2.2 : sProp 𝕄))
    = bigSep Finset.univ fun c : Dev nD =>
        iprop((dutyTok ER (cell (prv c, kBar)) 0 true ∗ dutyTok ER (cell (nxt c, kBar)) 0 false) ∗ bigSep Finset.univ (fun j => fares c j)) := by
  have two (Φ : Bool → sProp 𝕄) : bigSep Finset.univ Φ = iprop(Φ true ∗ Φ false) := bigSep_univ_eq_bigSepL [true, false] (by decide) (by decide) Φ
  have hR : (bigSep Finset.univ fun c : Dev nD => bigSep Finset.univ fun j : Fin 6 => (dutyTok ER (cell (c, kRcv j)) 0 false : sProp 𝕄))
      = bigSep Finset.univ fun c : Dev nD => bigSep Finset.univ fun j : Fin 6 => dutyTok ER (cell (toD c j, kRcv j)) 0 false := by
    rw [← bigSep_univ_prod (fun x : Dev nD × Fin 6 => (dutyTok ER (cell (x.1, kRcv x.2)) 0 false : sProp 𝕄)), bigSep_univ_equiv route, bigSep_univ_prod]; rfl
  have hT := bigSep_univ_equiv step.symm (fun c : Dev nD => (dutyTok ER (cell (c, kBar)) 0 true : sProp 𝕄))
  have hF := bigSep_univ_equiv step (fun c : Dev nD => (dutyTok ER (cell (c, kBar)) 0 false : sProp 𝕄))
  have hL : bigSep payments (fun x => (dutyTok ER x.1 x.2.1 x.2.2 : sProp 𝕄))
      = bigSep Finset.univ fun c : Dev nD => iprop((dutyTok ER (cell (c, kBar)) 0 true ∗ dutyTok ER (cell (c, kBar)) 0 false)
          ∗ bigSep Finset.univ (fun j : Fin 6 => dutyTok ER (cell (c, kSnd j)) 0 false)
          ∗ bigSep Finset.univ (fun j : Fin 6 => dutyTok ER (cell (c, kRcv j)) 0 false)) := by
    unfold payments
    rw [bigSep_map, bigSep_univ_prod]
    exact bigSep_congr fun c _ => by rw [bigSep_univ_sum, bigSep_univ_sum, two]; rfl
  unfold fares
  rw [hL]
  simp only [bigSep_sep']
  rw [hR, hT, hF]
  rfl

/-! ## The launch's share of each device -/

/-- What the fresh records deal device `c`. -/
def dealt (c : Dev nD) : sProp 𝕄 :=
  iprop(bigSep Finset.univ (fun k => roundState ER (Rd m) (cell (c, k)) 0) ∗ bigSep Finset.univ (fun k => reached ER (cell (c, k)) 0) ∗ kept c)

/-- What device `c` starts with: the protocol set up on every semaphore, its rights, its two own semaphores. -/
def ready₀ (c : Dev nD) : sProp 𝕄 :=
  iprop(∃ K, records m K ∗ kept c ∗ idle c (.dma (outS 0)) ∗ idle c (.dma (outS 1)))

theorem fund : BI.own (ER (initOf meets payments)) ⊢ (|==> bigSep Finset.univ (dealt m) : sProp 𝕄) := by
  have hC (Φ : GSem nD τ sig → sProp 𝕄) : bigSep meets Φ = bigSep Finset.univ fun c : Dev nD => bigSep Finset.univ fun k : Kind13 => Φ (cell (c, k)) := by
    unfold meets; rw [bigSep_map, bigSep_univ_prod]; rfl
  have hG : bigSep Finset.univ (dealt m) = iprop((bigSep Finset.univ fun c : Dev nD => bigSep Finset.univ fun k : Kind13 => roundState ER (Rd m) (cell (c, k)) 0)
      ∗ (bigSep Finset.univ fun c : Dev nD => bigSep Finset.univ fun k : Kind13 => reached ER (cell (c, k)) 0)
      ∗ (bigSep Finset.univ fun c : Dev nD => bigSep Finset.univ fun k : Kind13 => fresh c k)
      ∗ bigSep Finset.univ fun c : Dev nD =>
          iprop((dutyTok ER (cell (prv c, kBar)) 0 true ∗ dutyTok ER (cell (nxt c, kBar)) 0 false) ∗ bigSep Finset.univ (fun j => fares c j))) := by
    unfold dealt kept
    rw [bigSep_sep', bigSep_sep', bigSep_sep']
  iintro HX
  imod (Rounds.fund ER (Rd m) meets payments) $$ HX with ⟨Hst, Hr, Hat, Htok⟩
  imodintro
  ihave Hst' := (Entails.of_eq (hC fun g => roundState ER (Rd m) g 0)) $$ Hst
  ihave Hat' := (Entails.of_eq (hC fun g => atPos ER g 0 ∅ 0)) $$ Hat
  ihave Hr' := (Entails.of_eq (hC fun g => reached ER g 0)) $$ Hr
  ihave Htok' := (Entails.of_eq payments_dealt) $$ Htok
  iapply (Entails.of_eq hG.symm)
  isplitl [Hst']; · iexact Hst'
  isplitl [Hr']; · iexact Hr'
  isplitl [Hat']; · iexact Hat'
  iexact Htok'

/-- On one device: its semaphores at zero become the protocol's. -/
theorem set_up (c : Dev nD) :
    iprop(Pipeline.ownSems0 (Ix := Unit) (Name := ℕ) (U := UU) (Lvl := ℕ) (Val := Elt F) (τ := τ) osem c ∗ unscopedSems0 c ∗ dealt m c)
      ⊢ |={Set.univ}=> iprop(bigSep Finset.univ (fun k => iprop(∃ κ : ℕ, cellInv ER (Rd m) κ (cell (c, k))))
          ∗ bigSep Finset.univ (fun k => reached ER (cell (c, k)) 0) ∗ kept c ∗ idle c (.dma (outS 0)) ∗ idle c (.dma (outS 1))) := by
  have hA : iprop(bigSep Finset.univ (fun k : Kind13 => (semVal (cell (c, k)) 0 : sProp 𝕄)) ∗ bigSep Finset.univ (fun k => roundState ER (Rd m) (cell (c, k)) 0))
      ⊢ |={Set.univ}=> bigSep Finset.univ (fun k => iprop(∃ κ : ℕ, cellInv ER (Rd m) κ (cell (c, k)))) := by
    rw [← bigSep_sep']
    exact (bigSep_mono fun k _ => (Rounds.body_intro ER (Rd m) (cell (c, k))).trans inv_alloc).trans (bigSep_fupd _ _)
  rw [own_sems, bar_sem]
  unfold dealt
  iintro ⟨⟨Hx, H0, H1⟩, Hb, Hst, Hr, Hk⟩
  imod hA $$ [Hx Hb Hst] with Hinv
  · isplitl [Hx Hb]
    · iapply (Entails.of_eq (kinds (fun k : Kind13 => (semVal (cell (c, k)) 0 : sProp 𝕄))).symm)
      isplitl [Hb]; · iapply (show idle c (.reg barS) ⊢ (semVal (cell (c, kBar)) 0 : sProp 𝕄) from BI.Entails.refl _) $$ Hb
      iapply (show bigSep Finset.univ (fun k : Fin 6 ⊕ Fin 6 => idle c (semOf (.inr k)))
        ⊢ (bigSep Finset.univ (fun k : Fin 6 ⊕ Fin 6 => semVal (cell (c, .inr k)) 0) : sProp 𝕄) from BI.Entails.refl _) $$ Hx
    · iexact Hst
  imodintro
  isplitl [Hinv]; · iexact Hinv
  isplitl [Hr]; · iexact Hr
  isplitl [Hk]; · iexact Hk
  isplitl [H0]; · iexact H0
  iexact H1

/-- The devices' records put together, for every device to use. -/
theorem shared :
    (bigSep Finset.univ fun c : Dev nD => iprop(bigSep Finset.univ (fun k => iprop(∃ κ : ℕ, cellInv ER (Rd m) κ (cell (c, k))))
        ∗ bigSep Finset.univ (fun k => reached ER (cell (c, k)) 0) ∗ kept c ∗ idle c (.dma (outS 0)) ∗ idle c (.dma (outS 1))) : sProp 𝕄)
      ⊢ bigSep Finset.univ (ready₀ m) := by
  have deal (K : Dev nD × Kind13 → ℕ) (c : Dev nD) :
      iprop(records m K ∗ kept c ∗ idle c (.dma (outS 0)) ∗ idle c (.dma (outS 1))) ⊢ ready₀ m c := by
    unfold ready₀
    iintro H
    iexists K
    iexact H
  rw [bigSep_sep', bigSep_sep', ← bigSep_univ_prod (fun ck : Dev nD × Kind13 => iprop(∃ κ : ℕ, cellInv ER (Rd m) κ (cell ck))),
    ← bigSep_univ_prod (fun ck : Dev nD × Kind13 => (reached ER (cell ck) 0 : sProp 𝕄))]
  iintro ⟨HI, #HR, Hk⟩
  ihave HK := (BI.bigSep_exists_pi Finset.univ (fun (ck : Dev nD × Kind13) (κ : ℕ) => (cellInv ER (Rd m) κ (cell ck) : sProp 𝕄))) $$ HI
  icases HK with ⟨%K, #HI⟩
  ihave #Hrec := (show iprop(bigSep Finset.univ (fun ck => cellInv ER (Rd m) (K ck) (cell ck)) ∗ bigSep Finset.univ (fun ck => reached ER (cell ck) 0)) ⊢ records m K
    from BI.Entails.refl _) $$ [HI HR]
  · isplitr; · iexact HI
    iexact HR
  ihave Hall := (BI.bigSep_of_persistent Finset.univ (records m K) : records m K ⊢ bigSep (Finset.univ : Finset (Dev nD)) fun _ => records m K) $$ Hrec
  iapply ((Entails.of_eq (bigSep_sep' Finset.univ (fun _ : Dev nD => records m K) (fun c => iprop(kept c ∗ idle c (.dma (outS 0)) ∗ idle c (.dma (outS 1))))).symm).trans
    (bigSep_mono fun c _ => deal K c))
  isplitl [Hall]; · iexact Hall
  iexact Hk

/-- On all devices at once. -/
theorem set_up_all : (bigSep Finset.univ fun c => iprop(Pipeline.ownSems0 (Ix := Unit) (Name := ℕ) (U := UU) (Lvl := ℕ) (Val := Elt F) (τ := τ) osem c
      ∗ unscopedSems0 c ∗ dealt m c) : sProp 𝕄)
    ⊢ |={Set.univ}=> bigSep Finset.univ (ready₀ m) :=
  ((bigSep_mono fun c _ => set_up m c).trans (bigSep_fupd _ _)).trans (BI.fupd_mono (shared m))

/-! ## The credit -/

theorem tally_cell (x y : Dev nD × Kind13) (n : ℕ) : (tallyAt (cell x) () n : CellTallies nD τ sig Unit) (cell y) () = if y = x then n else 0 := by
  rw [tallyAt_apply]
  by_cases h : y = x
  · rw [if_pos h, if_pos ⟨congrArg cell h, rfl⟩]
  · rw [if_neg h, if_neg fun h' => h (cell_injective h'.1)]

theorem debt_bar (d c : Dev nD) (l : List (Fin 6)) : debt d l (cell (c, kBar)) () = 0 := by
  by_contra h
  obtain ⟨j, -, e⟩ := debt_pos l (Nat.pos_of_ne_zero h)
  cases cell_injective e

theorem debt_rcv (d c : Dev nD) (j : Fin 6) : (l : List (Fin 6)) → debt d l (cell (c, kRcv j)) () = if d = fromD c j then l.count j * N else 0
  | [] => by rw [List.count_nil, Nat.zero_mul, ite_self]; rfl
  | i :: l => by
    unfold debt
    rw [Pi.add_apply, Finsupp.add_apply, debt_rcv d c j l, tally_cell]
    have iff1 : (d = fromD c j) = (c = toD d j) := propext ⟨fun h => by rw [h, toD_fromD], fun h => by rw [h, fromD_toD]⟩
    by_cases hij : i = j
    · subst hij
      rw [List.count_cons_self]
      by_cases h : d = fromD c i
      · rw [if_pos h, if_pos h, if_pos (by rw [← iff1.mp h]), Nat.add_mul, Nat.one_mul]
      · rw [if_neg h, if_neg h, if_neg fun h' => h (iff1.mpr (congrArg Prod.fst h'))]
    · rw [List.count_cons_of_ne hij, if_neg fun h' : ((c, kRcv j) : Dev nD × Kind13) = (toD d i, kRcv i) => hij (by cases h'; rfl), Nat.add_zero]

theorem owed_bar (d c : Dev nD) : O₀ d (cell (c, kBar)) () = (if d = prv c then 1 else 0) + (if d = nxt c then 1 else 0) := by
  unfold O₀ O₁
  rw [Pi.add_apply, Finsupp.add_apply, Pi.add_apply, Finsupp.add_apply, debt_bar, tally_cell, tally_cell]
  revert d c; decide

theorem owed_rcv (d c : Dev nD) (j : Fin 6) : O₀ d (cell (c, kRcv j)) () = if d = fromD c j then N else 0 := by
  have h1 : order.count j = 1 := by revert j; decide
  unfold O₀ O₁
  rw [Pi.add_apply, Finsupp.add_apply, Pi.add_apply, Finsupp.add_apply, debt_rcv, tally_cell, tally_cell, h1, Nat.one_mul,
    if_neg (c := ((c, kRcv j) : Dev nD × Kind13) = (nxt d, kBar)) (fun h => by cases congrArg Prod.snd h),
    if_neg (c := ((c, kRcv j) : Dev nD × Kind13) = (prv d, kBar)) (fun h => by cases congrArg Prod.snd h), Nat.add_zero]

/-- What all the devices owe one semaphore, as credit there. -/
theorem credit_at (ck : Dev nD × Kind13) (n : ℕ) (h : ∑ d : Dev nD, O₀ d (cell ck) () = n) :
    tallyOn (cell ck) (launchCredit (Pipeline.owing O₀) 0 (cell ck)) = (tallyAt (cell ck) () n : CellTallies nD τ sig Unit) := by
  unfold tallyAt
  refine congrArg _ (Finsupp.ext fun u => ?_)
  cases u
  rw [Pipeline.launchCredit_owing, Finsupp.single_eq_same, h]

/-- The semaphores a device has credit at. -/
def credited : Unit ⊕ Fin 6 ↪ SemLoc sig := ⟨fun k => semOf (k.map id .inr), fun a b h => by
  have := semOf_injective h
  revert a b; decide⟩

theorem credit (c : Dev nD) :
    (Pipeline.launchCred O₀ c : sProp 𝕄) ⊢ iprop(cred (tallyAt (cell (c, kBar)) () 2) ∗ bigSep Finset.univ (fun j => ticket c (.inr j))) := by
  have hb : ∑ d : Dev nD, O₀ d (cell (c, kBar)) () = 2 := by
    rw [Finset.sum_congr rfl fun d _ => owed_bar d c]
    revert c; decide
  have hr (j : Fin 6) : ∑ d : Dev nD, O₀ d (cell (c, kRcv j)) () = N := by
    rw [Finset.sum_congr rfl fun d _ => owed_rcv d c j, Finset.sum_ite_eq' Finset.univ (fromD c j) fun _ => N, if_pos (Finset.mem_univ _)]
  have one (Φ : Unit → sProp 𝕄) : bigSep Finset.univ Φ = Φ () := bigSep_univ_eq_bigSepL [()] (by decide) (by decide) Φ
  unfold Pipeline.launchCred
  refine (bigSep_subset (Finset.subset_univ (Finset.univ.map credited))).trans ?_
  rw [bigSep_map, bigSep_univ_sum, one, ← credit_at (c, kBar) 2 hb]
  unfold ticket
  rw [bigSep_congr fun (j : Fin 6) _ => congrArg cred (credit_at (c, kRcv j) N (hr j)).symm]
  exact BI.Entails.refl _

end Cert.Gather
-- ==== Proof.Launch.lean ====
/-
# The launch

The kernel runs as one region at one point: its two operands are staged, the body runs, and nothing is written back, for
the body itself copies its result out. From what the launch gives every device, the body's run on each device gives the
whole program's: every device ends with the product in its result, its operands as they were, and every semaphore at zero.
-/
module

public import proofs.«01_k».proof.Proof.Deal
public import Idealize.ShloMosaic.Lib.Pipeline.CollectiveSegs

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## Before and after the body -/

/-- What device `c` brings to the region. -/
def brought (c : Dev nD) : sProp 𝕄 :=
  iprop(ready₀ m c ∗ (cred (tallyAt (cell (c, kBar)) () 2) ∗ bigSep Finset.univ (fun j => ticket c (.inr j))) ∗ levAts L lv
    ∗ ((c : Thread nD τ).loc main_v1 ↦{fullShare} m ((c : Thread nD τ).loc main_v1)))
/-- Before the body: that, and the three scratch buffers. -/
def before₀ (c : Dev nD) : sProp 𝕄 := iprop(brought m c ∗ Pipeline.scopedRest cfg0.spec c)
/-- After the body: the result, every semaphore idle, the scratch buffers. -/
def after₀ (c : Dev nD) : sProp 𝕄 :=
  iprop(((c : Thread nD τ).loc main_v1 ↦{fullShare} outF m c) ∗ idle c (.reg barS)
    ∗ (bigSep Finset.univ (fun k : Fin 6 ⊕ Fin 6 => idle c (semOf (.inr k))) ∗ idle c (.dma (outS 0)) ∗ idle c (.dma (outS 1)))
    ∗ Pipeline.scopedRest cfg0.spec c)

def dats (_ : Fin 1) (c : Dev nD) : Dat τ (Elt F) Unit ℕ UU ℕ cfg0 c where
  A w := m ((cfg0.win w).arr.view.loc (c : Thread nD τ))
  after w _ := match w with
    | ⟨0, _⟩ => aIn m c
    | ⟨1, _⟩ => bIn m c
  Φ t := match t with
    | ⟨0, _⟩ => before₀ m c
    | ⟨_ + 1, _⟩ => after₀ m c
  q _ := fullShare
  owed t := match t with
    | ⟨0, _⟩ => O₀ c
    | ⟨_ + 1, _⟩ => 0

theorem staged (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ ((c : Thread nD τ).loc b ↦{fullShare} f)) := by
  unfold owns
  simp only [Memref.view_whole, View.read_whole, View.set_whole]

/-- The first operand comes in as the block of its array, -/
theorem before_a (c : Dev nD) (d) : (dats m 0 c).before (0 : Fin 2) t0_0 d = aIn m c := by
  unfold Dat.before
  rw [if_pos (by rfl)]; rfl
/-- and so does the second. -/
theorem before_b (c : Dev nD) (d) : (dats m 0 c).before (1 : Fin 2) t0_0 d = bIn m c := by
  unfold Dat.before
  rw [if_pos (by rfl)]; rfl

/-! ## The body -/

/-- Every kind of rest at the end, put together. -/
theorem settled (c : Dev nD) :
    iprop(idle c (.dma (sndS 0)) ∗ idle c (.dma (sndS 1)) ∗ idle c (.dma (sndS 2)) ∗ idle c (.dma (sndS 3)) ∗ idle c (.dma (sndS 4)) ∗ idle c (.dma (sndS 5)) ∗ idle c (.dma (rcvS 0)) ∗ idle c (.dma (rcvS 1)) ∗ idle c (.dma (rcvS 2)) ∗ idle c (.dma (rcvS 3)) ∗ idle c (.dma (rcvS 4)) ∗ idle c (.dma (rcvS 5)))
      ⊢ (bigSep Finset.univ (fun k : Fin 6 ⊕ Fin 6 => idle c (semOf (.inr k))) : sProp 𝕄) := by
  rw [sides, six, six]
  iintro ⟨S0, S1, S2, S3, S4, S5, R0, R1, R2, R3, R4, R5⟩
  isplitl [S0 S1 S2 S3 S4 S5]
  · isplitl [S0]; · iexact S0
    isplitl [S1]; · iexact S1
    isplitl [S2]; · iexact S2
    isplitl [S3]; · iexact S3
    isplitl [S4]; · iexact S4
    iexact S5
  · isplitl [R0]; · iexact R0
    isplitl [R1]; · iexact R1
    isplitl [R2]; · iexact R2
    isplitl [R3]; · iexact R3
    isplitl [R4]; · iexact R4
    iexact R5

set_option maxRecDepth 4000 in
/-- What the region asks of the body, from the run on one device. -/
theorem body_runs (c : Dev nD) :
    iprop(before₀ m c ∗ (dats m 0 c).owesAt () t0_0.castSucc
        ∗ (∃ d f, ⌜f = (dats m 0 c).before (0 : Fin 2) t0_0 d⌝ ∗ ((c : Thread nD τ).loc cc0_stg0_0 ↦{fullShare} f))
        ∗ (∃ d f, ⌜f = (dats m 0 c).before (1 : Fin 2) t0_0 d⌝ ∗ ((c : Thread nD τ).loc cc0_stg1_0 ↦{fullShare} f)))
      ⊢ Runs c (onBufs (cc0_body (F := F))) (fun _ => iprop(after₀ m c ∗ (dats m 0 c).owesAt () t0_0.succ
        ∗ (∃ f, ⌜f = aIn m c⌝ ∗ ((c : Thread nD τ).loc cc0_stg0_0 ↦{fullShare} f))
        ∗ (∃ f, ⌜f = bIn m c⌝ ∗ ((c : Thread nD τ).loc cc0_stg1_0 ↦{fullShare} f)))) := by
  unfold before₀ brought ready₀ kept Dat.owesAt Pipeline.owesWithin
  rw [scopedRest0_eq, six, six, kinds, sides, six, six]
  rw [show (dats m 0 c).owed t0_0.castSucc = O₀ c from rfl, show (dats m 0 c).owed t0_0.succ = 0 from rfl]
  iintro ⟨⟨⟨⟨%K, #Hrec, ⟨⟨Hfb, ⟨Hfs0, Hfs1, Hfs2, Hfs3, Hfs4, Hfs5⟩, ⟨Hfr0, Hfr1, Hfr2, Hfr3, Hfr4, Hfr5⟩⟩, ⟨HtP, HtN⟩, ⟨Hfa0, Hfa1, Hfa2, Hfa3, Hfa4, Hfa5⟩⟩, Hz0, Hz1⟩, ⟨HcB, ⟨Htk0, Htk1, Htk2, Htk3, Htk4, Htk5⟩⟩, #Hlev, Hres⟩, ⟨Hag, Hbb, ⟨%fy, Hyy⟩⟩⟩,
    ⟨%W, %hW, HO⟩, ⟨%d0, %g0, %hg0, Ha⟩, ⟨%d1, %g1, %hg1, Hb⟩⟩
  obtain rfl : g0 = aIn m c := hg0.trans (before_a m c d0)
  obtain rfl : g1 = bIn m c := hg1.trans (before_b m c d1)
  ihave Hst := (stage_open c fy) $$ Hyy
  icases Hst with ⟨Hst0, Hst1⟩
  ihave Hrows := (rows_open c (m ((c : Thread nD τ).loc main_v1))) $$ Hres
  icases Hrows with ⟨Hr00, Hr01, Hr10, Hr11, Hr20, Hr21, Hr30, Hr31⟩
  iapply (wp_wand_r frame (wpE (defs₀ (F := F)) 𝒱₀ (c : Thread nD τ) none) Set.univ)
  isplitl [Ha Hb Hag Hbb Hst0 Hst1 Hz0 Hz1 HO HtP HtN HcB Hfb Hr00 Hr01 Hr10 Hr11 Hr20 Hr21 Hr30 Hr31 Hfa0 Hfa1 Hfa2 Hfa3 Hfa4 Hfa5 Htk0 Htk1 Htk2 Htk3 Htk4 Htk5 Hfr0 Hfr1 Hfr2 Hfr3 Hfr4 Hfr5 Hfs0 Hfs1 Hfs2 Hfs3 Hfs4 Hfs5]
  · iapply (run_body m K c)
    isplitr; · iexact Hrec
    isplitr; · iexact Hlev
    isplitl [Ha]; · iexact Ha
    isplitl [Hb]; · iexact Hb
    isplitl [Hag]; · iexact Hag
    isplitl [Hbb]; · iexact Hbb
    isplitl [Hst0]; · iexact Hst0
    isplitl [Hst1]; · iexact Hst1
    isplitl [Hz0]; · iexact Hz0
    isplitl [Hz1]; · iexact Hz1
    isplitl [HO]; · (unfold owing; iexists W; iexact HO)
    isplitl [HtP]; · iexact HtP
    isplitl [HtN]; · iexact HtN
    isplitl [HcB]; · iexact HcB
    isplitl [Hfb]; · iexact Hfb
    isplitl [Hr00]; · iexact Hr00
    isplitl [Hr01]; · iexact Hr01
    isplitl [Hr10]; · iexact Hr10
    isplitl [Hr11]; · iexact Hr11
    isplitl [Hr20]; · iexact Hr20
    isplitl [Hr21]; · iexact Hr21
    isplitl [Hr30]; · iexact Hr30
    isplitl [Hr31]; · iexact Hr31
    isplitl [Hfa0]; · iexact Hfa0
    isplitl [Hfa1]; · iexact Hfa1
    isplitl [Hfa2]; · iexact Hfa2
    isplitl [Hfa3]; · iexact Hfa3
    isplitl [Hfa4]; · iexact Hfa4
    isplitl [Hfa5]; · iexact Hfa5
    isplitl [Htk0]; · iexact Htk0
    isplitl [Htk1]; · iexact Htk1
    isplitl [Htk2]; · iexact Htk2
    isplitl [Htk3]; · iexact Htk3
    isplitl [Htk4]; · iexact Htk4
    isplitl [Htk5]; · iexact Htk5
    isplitl [Hfr0]; · iexact Hfr0
    isplitl [Hfr1]; · iexact Hfr1
    isplitl [Hfr2]; · iexact Hfr2
    isplitl [Hfr3]; · iexact Hfr3
    isplitl [Hfr4]; · iexact Hfr4
    isplitl [Hfr5]; · iexact Hfr5
    isplitl [Hfs0]; · iexact Hfs0
    isplitl [Hfs1]; · iexact Hfs1
    isplitl [Hfs2]; · iexact Hfs2
    isplitl [Hfs3]; · iexact Hfs3
    isplitl [Hfs4]; · iexact Hfs4
    iexact Hfs5
  iintro %_ ⟨Ha, Hb, Hag, Hbb, Hst0, Hst1, Hout, Hzb, Zs0, Zs1, Zs2, Zs3, Zs4, Zs5, Zr0, Zr1, Zr2, Zr3, Zr4, Zr5, Hz0, Hz1, HO⟩
  unfold after₀
  rw [scopedRest0_eq]
  isplitl [Hag Hbb Hst0 Hst1 Hout Hzb Zs0 Zs1 Zs2 Zs3 Zs4 Zs5 Zr0 Zr1 Zr2 Zr3 Zr4 Zr5 Hz0 Hz1]
  · isplitl [Hout]; · iexact Hout
    isplitl [Hzb]; · iexact Hzb
    isplitl [Zs0 Zs1 Zs2 Zs3 Zs4 Zs5 Zr0 Zr1 Zr2 Zr3 Zr4 Zr5 Hz0 Hz1]
    · isplitl [Zs0 Zs1 Zs2 Zs3 Zs4 Zs5 Zr0 Zr1 Zr2 Zr3 Zr4 Zr5]
      · iapply (settled c)
        isplitl [Zs0]; · iexact Zs0
        isplitl [Zs1]; · iexact Zs1
        isplitl [Zs2]; · iexact Zs2
        isplitl [Zs3]; · iexact Zs3
        isplitl [Zs4]; · iexact Zs4
        isplitl [Zs5]; · iexact Zs5
        isplitl [Zr0]; · iexact Zr0
        isplitl [Zr1]; · iexact Zr1
        isplitl [Zr2]; · iexact Zr2
        isplitl [Zr3]; · iexact Zr3
        isplitl [Zr4]; · iexact Zr4
        iexact Zr5
      isplitl [Hz0]; · iexact Hz0
      iexact Hz1
    isplitl [Hag]; · iexists _; iexact Hag
    isplitl [Hbb]; · iexists _; iapply (show bAt m c ⊢ ((c : Thread nD τ).loc cc0_scratch1 ↦{fullShare} bBf m c : sProp 𝕄) from BI.Entails.refl _) $$ Hbb
    iapply (stage_back c)
    isplitl [Hst0]; · iexact Hst0
    iexact Hst1
  isplitl [HO]
  · ihave HO' := (show owing c 0 ⊢ (∃ W, owes (c : Thread nD τ) 0 W : sProp 𝕄) from BI.Entails.refl _) $$ HO
    icases HO' with ⟨%W', HO⟩
    iexists W'
    isplitr; · ipureintro; exact fun _ _ => Or.inl trivial
    iexact HO
  isplitl [Ha]
  · iexists _; isplitr; · (ipureintro; rfl)
    iexact Ha
  iexists _; isplitr; · (ipureintro; rfl)
  iexact Hb

set_option maxRecDepth 4000 in
theorem body_obligation (c : Dev nD) : BodyObligation (dats (F := F) m 0 c) (defs₀ (F := F)) 𝒱₀ () Set.univ := fun t => by
  rw [fin_N0 t]
  rw [show ∀ Φ : Fin cfg0.W → sProp 𝕄, bigSep Finset.univ Φ = iprop(Φ (0 : Fin 2) ∗ Φ (1 : Fin 2)) from bigSep_W0,
    show ∀ Φ : Fin cfg0.W → sProp 𝕄, bigSep Finset.univ Φ = iprop(Φ (0 : Fin 2) ∗ Φ (1 : Fin 2)) from bigSep_W0]
  simp only [staged]
  exact body_runs m c

/-! ## Around the body -/

theorem ownSemFacts : Pipeline.OwnSemFacts cfg0.spec osem := by decide

theorem share_eq (c : Dev nD) (w : Fin cfg0.W) : (dats m 0 c).share w = fullShare := by unfold Dat.share; split <;> rfl

theorem bring (c : Dev nD) :
    iprop(Pipeline.unscopedRestP Pipeline.Prefetch.none cfg0.spec c (fun b => m ((c : Thread nD τ).loc b)) ∗ levAts L lv
        ∗ Pipeline.launchCred O₀ c ∗ prngReg c (ρ c) ∗ ready₀ m c)
      ⊢ |={Set.univ}=> iprop(brought m c ∗ emp) := by
  rw [Pipeline.unscopedRestP_none, unscopedRest0_eq]
  iintro ⟨Hv, Hlev, Hcr, -, HG⟩
  ihave Hc := (credit (F := F) c) $$ Hcr
  imodintro
  unfold brought
  isplitl
  · isplitl [HG]; · iexact HG
    isplitl [Hc]; · iexact Hc
    isplitl [Hlev]; · iexact Hlev
    iexact Hv
  · iempintro

theorem enter (c : Dev nD) :
    iprop(brought m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before₀ m c from rfl]
  unfold before₀
  iintro ⟨Hs, -, Hr⟩
  isplitl [Hs]; · iexact Hs
  iexact Hr

/-- What is left of a device's own beside the region: its barrier idle, its result. -/
def left (c : Dev nD) : sProp 𝕄 := iprop(unscopedSems0 c ∗ ((c : Thread nD τ).loc main_v1 ↦{fullShare} outF m c))

theorem leave (c : Dev nD) :
    (dats m 0 c).Φ (Fin.last cfg0.N) ⊢ iprop(left m c ∗ Pipeline.ownSems0 osem c ∗ Pipeline.scopedRest cfg0.spec c) := by
  rw [show (dats m 0 c).Φ (Fin.last cfg0.N) = after₀ m c from rfl, own_sems]
  unfold after₀ left
  rw [bar_sem]
  iintro ⟨Hv, Hb, Hs, Hr⟩
  isplitl [Hv Hb]
  · isplitl [Hb]; · iexact Hb
    iexact Hv
  isplitl [Hs]; · iexact Hs
  iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-- What the memory says of device `c` at the end. -/
def tells (c : Dev nD) (s : MemSt nD τ sig (Elt F)) : Prop :=
  (∀ sm : SemLoc sig, sm.isScoped .tc = false → s.sem ((c.tc : Thread nD τ), sm) = 0) ∧ s.mem ((c : Thread nD τ).loc main_v1) = outF m c

theorem read_left (c : Dev nD) (s' : Phys nD τ sig (Elt F)) :
    iprop(left m c ∗ emp ∗ SI s') ⊢ |={Set.univ}=> iprop(⌜tells m c s'.mem⌝ ∗ (SI s' : sProp 𝕄)) := by
  unfold left
  iintro ⟨⟨Hu, Hv⟩, -, HSI⟩
  icombine HSI Hv gives %h
  imod (Pipeline.unscopedSems0_read (X := unscopedSems0 c) (c := c) fupd_intro s') $$ [Hu HSI] with ⟨%hs, HSI⟩
  · isplitl [Hu] <;> iassumption
  imodintro
  isplitr; · ipureintro; exact ⟨hs, Buf.eq_of_forall_mem_univ h⟩
  iexact HSI

/-! ## The run -/

/-- The launch's ghost state. -/
def u₀ : UU := (initOf (Pipeline.cells cfgs cellOf_inj) (Pipeline.launchToks cfgs cellOf_inj), (initOf meets payments, 1))

theorem start_ghost : (ownU u₀ : sProp 𝕄)
    ⊢ |={Set.univ}=> iprop(BI.own (EP (initOf (Pipeline.cells cfgs cellOf_inj) (Pipeline.launchToks cfgs cellOf_inj))) ∗ bigSep Finset.univ (dealt m)) := by
  unfold u₀
  iintro Hu
  ihave H := (ownU_pair _ _) $$ Hu
  icases H with ⟨HP, HX⟩
  ihave HX' := (own_pair_emb embR (initOf meets payments) (1 : Counters)) $$ HX
  icases HX' with ⟨HX, -⟩
  imod (show BI.own (((Emb.inl : Emb UB (UB × Counters)).trans embR) (initOf meets payments)) ⊢ (|==> bigSep Finset.univ (dealt m) : sProp 𝕄) from fund m) $$ HX with HG
  imodintro
  isplitl [HP] <;> iassumption

set_option maxRecDepth 8000 in
/-- From any memory with every semaphore at zero, for any float values, the kernel on the four devices ends, and then every
device has the product in its result, its operands are as they were, and every semaphore is at zero. -/
theorem run_main : θ_run defs (onTc (τ := τ) (main (F := F))) ⟨m, fun _ => 0, ρ⟩ (fun r =>
    (∀ c : Dev nD, r.2.mem ((c : Thread nD τ).loc main_v1) = outF m c
      ∧ r.2.mem ((c : Thread nD τ).loc main_arg0) = m ((c : Thread nD τ).loc main_arg0)
      ∧ r.2.mem ((c : Thread nD τ).loc main_arg1) = m ((c : Thread nD τ).loc main_arg1))
    ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl) (hbody := fun c => body_obligation m c) (hne := block_pos0) (harr := arr_whole0) (hstage := stage_whole0)
    (hshare := share_eq m) (hdistinct := winFacts0.arr_inj)
    (O₀ := O₀) (howed₀ := fun _ => rfl) (howedN := fun _ => rfl) (L := L) (lv := lv) (hL := L_of_ne) (hwaits := waits m)
    (G := dealt m) (G' := ready₀ m) (u₀ := u₀) (hu₀ := start_ghost m) (hglob := set_up_all m)
    (hA := fun _ _ => rfl) (hpf := fun _ k => k.elim0)
    (X := brought m) (Y := left m) (Z := fun _ => iprop(emp)) (hX := bring m ρ) (hin := enter m) (hout := leave m)
    (QY := tells m) (hY := read_left m)
    (hQ := fun s h hs => ⟨fun c => ⟨(h c).2.2.2, ((h c).1 (0 : Fin 2)).trans ((dats m 0 c).arrAt_in (0 : Fin 2) rfl _),
      ((h c).1 (1 : Fin 2)).trans ((dats m 0 c).arrAt_in (1 : Fin 2) rfl _)⟩, sem_eq_zero hs fun c => (h c).2.2.1⟩)

end Cert.Gather
-- ==== Proof.Equation.lean ====
/-
# The product

Over the real values rounding changes nothing, so what every device ends with is the product of the whole `A` and `B`: row
`r` of the result is row `r % 768` of half `r % 1536 / 768` of the block of device `r / 1536`, times `B`.
-/
module

public import proofs.«01_k».proof.Proof.Contents
public import proofs.«01_k».proof.ReferenceIdeal
public import proofs.«01_k».proof.Proof.Gen.ReferenceIdeal
public import Idealize.ShloMosaic.PureOps.Ideal.Laws
public import Idealize.ShloMosaic.Lib.MatmulPlain
public import Idealize.ShloMosaic.Lib.StackMember
public import Idealize.ShloMosaic.Lib.Layout

@[expose] public section

noncomputable section

namespace Cert.Gather

open Cert.KernelIdeal Cert.KernelIdeal.Gen

open Idealize.ShloMosaic
open Idealize.ShloMosaic.TcCoe
open Idealize.ShloMosaic.ValueIdx

/-- Row `r`, column `q` of the product of the whole `A` and `B`. -/
def entry (A : FVec Ideal Cert.ReferenceIdeal.S6144x768 .f32) (B : FVec Ideal Cert.ReferenceIdeal.S768x1536 .f32) (r : Fin 6144) (q : Fin 1536) : EReal :=
  ∑ k : Fin 768, A (ix2 r k) * B (ix2 k q)

variable (m : (ℓ : Loc nD τ sig) → Buf (Elt Ideal) ℓ)

/-- A device's part of `A`, -/
def partA (c : Dev nD) : S1536x768.Idx → EReal := m ((c : Thread nD τ).loc main_arg0)
/-- and its copy of `B`. -/
def copyB (c : Dev nD) : S768x1536.Idx → EReal := m ((c : Thread nD τ).loc main_arg1)

/-- The block a device stages of its part of `A` is all of the part, -/
theorem aIn_apply (c : Dev nD) (i : S1536x768.Idx) : aIn m c i = m ((c : Thread nD τ).loc main_arg0) i := by
  have h : (win0_0.blk (0 : Fin 1)).view.emb i = i := by
    funext a
    refine Fin.ext ?_
    match a with
    | ⟨0, _⟩ => show 0 * 1536 + 1 * (i 0).val = (i 0).val; omega
    | ⟨1, _⟩ => show 0 * 768 + 1 * (i 1).val = (i 1).val; omega
  exact congrArg (m ((c : Thread nD τ).loc main_arg0)) h
/-- and what it stages of `B` is all of `B`. -/
theorem bIn_apply (c : Dev nD) (i : S768x1536.Idx) : bIn m c i = m ((c : Thread nD τ).loc main_arg1) i := by
  have h : (win0_1.blk (0 : Fin 1)).view.emb i = i := by
    funext a
    refine Fin.ext ?_
    match a with
    | ⟨0, _⟩ => show 0 * 768 + 1 * (i 0).val = (i 0).val; omega
    | ⟨1, _⟩ => show 0 * 1536 + 1 * (i 1).val = (i 1).val; omega
  exact congrArg (m ((c : Thread nD τ).loc main_arg1)) h

/-- A product of a half, entry by entry. -/
theorem tile_apply (c o : Dev nD) (h : Fin 2) (p : Fin 768) (q : Fin 1536) :
    tile m c o h (ix2 p q) = ∑ k : Fin 768,
      partA m o (ix2 ⟨768 * h.val + p.val, row_lt h p⟩ k) * copyB m c (ix2 k q) := by
  unfold tile
  rw [show dot_S768x768_S768x1536_S768x1536_1_0_0_1_n_n = DotDims.plain 768 768 1536 from rfl]
  refine (Ideal.matmul_plain_apply none (hv m o h) (bBf m c) _ p q).trans ?_
  rw [show (constant S768x1536 .f32 0x00000000#32 : FVec Ideal S768x1536 .f32) (ix2 p q) = 0 from Ideal.ofBits_zero_f32, zero_add]
  refine Finset.sum_congr rfl fun k _ => ?_
  exact congrArg₂ (fun x y : EReal => x * y) (aIn_apply m o _) (bIn_apply m c _)

/-- The reference's product, entry by entry. -/
theorem reference_apply (A : FVec Ideal Cert.ReferenceIdeal.S6144x768 .f32) (B : FVec Ideal Cert.ReferenceIdeal.S768x1536 .f32) (r : Fin 6144) (q : Fin 1536) :
    (Host.dotGeneral Cert.ReferenceIdeal.dot_S6144x768_S768x1536_S6144x1536_1_0_0_1_n_n none A B
      : FVec Ideal Cert.ReferenceIdeal.S6144x1536 .f32) (ix2 r q) = entry A B r q := by
  rw [show Cert.ReferenceIdeal.dot_S6144x768_S768x1536_S6144x1536_1_0_0_1_n_n = DotDims.plain 6144 768 1536 from rfl]
  exact StackMember.dotGeneral_plain_apply none _ _ r q

/-- Every device's result is the reference's product, if each device has its block of `A` and all of `B`. -/
theorem out_eq (A : FVec Ideal Cert.ReferenceIdeal.S6144x768 .f32) (B : FVec Ideal Cert.ReferenceIdeal.S768x1536 .f32)
    (hA : ∀ c : Dev nD, m ((c : Thread nD τ).loc main_arg0) = Layout.block ⟨2, ![1536, 768]⟩ ⟨2, ![6144, 768]⟩ 0 4 c A)
    (hB : ∀ c : Dev nD, m ((c : Thread nD τ).loc main_arg1) = B) (c : Dev nD) :
    outF m c = (Host.dotGeneral Cert.ReferenceIdeal.dot_S6144x768_S768x1536_S6144x1536_1_0_0_1_n_n none A B
      : FVec Ideal Cert.ReferenceIdeal.S6144x1536 .f32) := by
  funext i
  obtain ⟨r, q, rfl⟩ : ∃ (r : Fin 6144) (q : Fin 1536), i = ix2 r q := ⟨_, _, eq_ix2 i⟩
  refine Eq.trans ?_ (reference_apply A B r q).symm
  refine (tile_apply m c ⟨r.val / 1536, dev_lt r⟩ ⟨r.val % 1536 / 768, part_lt r⟩ ⟨r.val % 768, Nat.mod_lt _ (by decide)⟩ q).trans ?_
  refine Finset.sum_congr rfl fun k _ => ?_
  unfold partA copyB
  rw [hA, hB]
  refine congrArg (fun x => A x * B (ix2 k q)) ?_
  funext a
  refine Fin.ext ?_
  match a with
  | ⟨0, _⟩ =>
    show r.val / 1536 * 1536 + (768 * (r.val % 1536 / 768) + r.val % 768) = r.val
    omega
  | ⟨1, _⟩ => rfl

end Cert.Gather
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem Cert.Gather

/-- The two printings of the kernel name the same bodies, -/
theorem bodies_same : Cert.Kernel.defs₀ (F := Bits) = Cert.KernelIdeal.defs₀ (F := Bits) := by
  unfold Cert.Kernel.defs₀ Cert.KernelIdeal.defs₀
  refine congrArg Defs.onTc (funext fun l => funext fun x => ?_)
  match l, x with
  | 0, (t, s) => rfl
/-- and so the same table of programs. -/
theorem tables_same : Cert.Kernel.defs (F := Bits) = Cert.KernelIdeal.defs (F := Bits) :=
  congrArg (Pipeline.defs _) bodies_same

/-- The kernel runs to its end at the machine's own bits: its program is the one proved over any values. -/
theorem frame_kernel : Cert.quiescent_Kernel := fun m ρ _ => by
  rw [tables_same]
  exact (θ_run Cert.KernelIdeal.defs _ _).mono (fun _ h => ⟨fun c => (h.1 c).2, h.2⟩) (run_main (F := Bits) m ρ)

/-- So it does over the real values, -/
theorem frame_kernel_ideal : Cert.quiescent_KernelIdeal := fun m ρ _ =>
  (θ_run Cert.KernelIdeal.defs _ _).mono (fun _ h => ⟨fun c => (h.1 c).2, h.2⟩) (run_main (F := Ideal) m ρ)

/-- and so does the reference, which has no semaphore. -/
theorem frame_reference : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run (F := Ideal) m ρ)

/-- Every device ends with the reference's product. -/
theorem same_product : Cert.algebraic_KernelIdeal_ReferenceIdeal := fun m ρ m' ρ' _ hin =>
  ⟨_, (θ_run Cert.KernelIdeal.defs _ _).mono
      (fun _ h c => ⟨(h.1 c).1.trans (out_eq m _ _ (fun d => (hin d).1) (fun d => (hin d).2) c), (h.1 c).2⟩)
      (run_main (F := Ideal) m ρ),
    (θ_run Cert.ReferenceIdeal.defs _ _).mono (fun _ h => h 0) (Cert.ReferenceIdeal.Value.run (F := Ideal) m' ρ')⟩

/-- Every claim. -/
theorem claim : Cert.Claim := ⟨Cert.Kernel.Gen.facts, Cert.KernelIdeal.Gen.facts, Cert.ReferenceIdeal.Gen.facts,
  frame_kernel, frame_kernel_ideal, frame_reference, trivial, same_product⟩

end Cert.Proof

end
